-- ==== Defs.lean ====
def Pre_KernelIdeal (m : (ℓ : Loc Cert.KernelIdeal.nD Cert.KernelIdeal.τ Cert.KernelIdeal.sig) → Buf (Elt Ideal) ℓ) : Prop :=
  True

def Pre_KernelIdeal_finite_uniform [hPre_finite_uniform : Cert.Pre_finite_uniform.Facts] (m : (ℓ : Loc Cert.KernelIdeal.nD Cert.KernelIdeal.τ Cert.KernelIdeal.sig) → Buf (Elt Ideal) ℓ) : Prop :=
  ∀ c : Dev Cert.KernelIdeal.nD,
    (Cert.Pre_finite_uniform.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_uniform [hPre_finite_uniform : Cert.Pre_finite_uniform.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_uniform.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Gather [hPre_idx_in_rows : Cert.Pre_idx_in_rows.Facts] (m : (ℓ : Loc Cert.Gather.nD Cert.Gather.τ Cert.Gather.sig) → Buf (Elt Bits) ℓ) : Prop :=
  ∀ c : Dev Cert.Gather.nD,
    (Cert.Pre_idx_in_rows.fn (F := Bits) (m ((c.tc : Thread Cert.Gather.nD Cert.Gather.τ).loc Cert.Gather.main_arg0)) (m ((c.tc : Thread Cert.Gather.nD Cert.Gather.τ).loc Cert.Gather.main_arg1))) = (fun _ => 1#1)

def Pre_GatherIdeal [hPre_idx_in_rows : Cert.Pre_idx_in_rows.Facts] (m : (ℓ : Loc Cert.GatherIdeal.nD Cert.GatherIdeal.τ Cert.GatherIdeal.sig) → Buf (Elt Ideal) ℓ) : Prop :=
  ∀ c : Dev Cert.GatherIdeal.nD,
    (Cert.Pre_idx_in_rows.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1))) = (fun _ => 1#1)

def Pre_GatherReferenceIdeal [hPre_idx_in_rows : Cert.Pre_idx_in_rows.Facts] (m : (ℓ : Loc Cert.GatherReferenceIdeal.nD Cert.GatherReferenceIdeal.τ Cert.GatherReferenceIdeal.sig) → Buf (Elt Ideal) ℓ) : Prop :=
  ∀ c : Dev Cert.GatherReferenceIdeal.nD,
    (Cert.Pre_idx_in_rows.fn (F := Ideal) (m ((c.tc : Thread Cert.GatherReferenceIdeal.nD Cert.GatherReferenceIdeal.τ).loc Cert.GatherReferenceIdeal.main_arg0)) (m ((c.tc : Thread Cert.GatherReferenceIdeal.nD Cert.GatherReferenceIdeal.τ).loc Cert.GatherReferenceIdeal.main_arg1))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_uniform [hKernelIdeal : Cert.KernelIdeal.Facts] [hPre_finite_uniform : Cert.Pre_finite_uniform.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_uniform m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_uniform [hReferenceIdeal : Cert.ReferenceIdeal.Facts] [hPre_finite_uniform : Cert.Pre_finite_uniform.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_uniform m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Gather [hGather : Cert.Gather.Facts] [hPre_idx_in_rows : Cert.Pre_idx_in_rows.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] [hPre_idx_in_rows : Cert.Pre_idx_in_rows.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_GatherReferenceIdeal [hGatherReferenceIdeal : Cert.GatherReferenceIdeal.Facts] [hPre_idx_in_rows : Cert.Pre_idx_in_rows.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1))
      ∧ r.2.sem = fun _ => 0)

def algebraic_KernelIdeal_ReferenceIdeal_pre_finite_uniform [hKernelIdeal : Cert.KernelIdeal.Facts] [hReferenceIdeal : Cert.ReferenceIdeal.Facts] [hPre_finite_uniform : Cert.Pre_finite_uniform.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_uniform m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Gather_GatherIdeal : Prop :=
  True

def algebraic_GatherIdeal_GatherReferenceIdeal [hGatherIdeal : Cert.GatherIdeal.Facts] [hGatherReferenceIdeal : Cert.GatherReferenceIdeal.Facts] [hPre_idx_in_rows : Cert.Pre_idx_in_rows.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m' ((c.tc : Thread Cert.GatherReferenceIdeal.nD Cert.GatherReferenceIdeal.τ).loc Cert.GatherReferenceIdeal.main_arg0) = m ((c.tc : Thread Cert.GatherIdeal.nD Cert.GatherIdeal.τ).loc Cert.GatherIdeal.main_arg0)
      ∧ m' ((c.tc : Thread Cert.GatherReferenceIdeal.nD Cert.GatherReferenceIdeal.τ).loc Cert.GatherReferenceIdeal.main_arg1) = m ((c.tc : Thread Cert.GatherIdeal.nD Cert.GatherIdeal.τ).loc Cert.GatherIdeal.main_arg1)) →
    ∃ (v0 : (c : Dev Cert.GatherIdeal.nD) → Buf (Elt Ideal) ((c.tc : Thread Cert.GatherIdeal.nD Cert.GatherIdeal.τ).loc Cert.GatherIdeal.main_v0)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v0) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.GatherReferenceIdeal.defs (F := Ideal)) (onTc (τ := Cert.GatherReferenceIdeal.τ) (Cert.GatherReferenceIdeal.main (F := Ideal))) ⟨m', fun _ => 0, g'⟩ (fun r => ∀ c : Dev Cert.GatherReferenceIdeal.nD,
          r.2.mem ((c.tc : Thread Cert.GatherReferenceIdeal.nD Cert.GatherReferenceIdeal.τ).loc Cert.GatherReferenceIdeal.main_v1) = v0 c
          ∧ r.2.mem ((c.tc : Thread Cert.GatherReferenceIdeal.nD Cert.GatherReferenceIdeal.τ).loc Cert.GatherReferenceIdeal.main_arg0) = m' ((c.tc : Thread Cert.GatherReferenceIdeal.nD Cert.GatherReferenceIdeal.τ).loc Cert.GatherReferenceIdeal.main_arg0)
          ∧ r.2.mem ((c.tc : Thread Cert.GatherReferenceIdeal.nD Cert.GatherReferenceIdeal.τ).loc Cert.GatherReferenceIdeal.main_arg1) = m' ((c.tc : Thread Cert.GatherReferenceIdeal.nD Cert.GatherReferenceIdeal.τ).loc Cert.GatherReferenceIdeal.main_arg1))

def Claim : Prop :=
  ∃ (hKernelIdeal : Cert.KernelIdeal.Facts) (hReferenceIdeal : Cert.ReferenceIdeal.Facts) (hGather : Cert.Gather.Facts) (hGatherIdeal : Cert.GatherIdeal.Facts) (hGatherReferenceIdeal : Cert.GatherReferenceIdeal.Facts) (hPre_finite_uniform : Cert.Pre_finite_uniform.Facts) (hPre_idx_in_rows : Cert.Pre_idx_in_rows.Facts),
    quiescent_KernelIdeal (hKernelIdeal := hKernelIdeal)
    ∧ quiescent_KernelIdeal_pre_finite_uniform (hKernelIdeal := hKernelIdeal) (hPre_finite_uniform := hPre_finite_uniform)
    ∧ quiescent_ReferenceIdeal (hReferenceIdeal := hReferenceIdeal)
    ∧ quiescent_ReferenceIdeal_pre_finite_uniform (hReferenceIdeal := hReferenceIdeal) (hPre_finite_uniform := hPre_finite_uniform)
    ∧ quiescent_Gather (hGather := hGather) (hPre_idx_in_rows := hPre_idx_in_rows)
    ∧ quiescent_GatherIdeal (hGatherIdeal := hGatherIdeal) (hPre_idx_in_rows := hPre_idx_in_rows)
    ∧ quiescent_GatherReferenceIdeal (hGatherReferenceIdeal := hGatherReferenceIdeal) (hPre_idx_in_rows := hPre_idx_in_rows)
    ∧ algebraic_KernelIdeal_ReferenceIdeal_pre_finite_uniform (hKernelIdeal := hKernelIdeal) (hReferenceIdeal := hReferenceIdeal) (hPre_finite_uniform := hPre_finite_uniform)
    ∧ preserves_Gather_GatherIdeal
    ∧ algebraic_GatherIdeal_GatherReferenceIdeal (hGatherIdeal := hGatherIdeal) (hGatherReferenceIdeal := hGatherReferenceIdeal) (hPre_idx_in_rows := hPre_idx_in_rows)
-- ==== Pre_finite_uniform.lean ====
abbrev S4096x64 : Shape := ⟨2, ![4096, 64]⟩
abbrev S17 : Shape := ⟨1, ![17]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S17 : S_.BroadcastsInDim S17 (![] : Fin 0 → Fin S17.rank)
  reducesTo_S17_S_d0 : S17.ReducesTo [0] S_

variable [Facts]

def fn {F : FTy → Type} [FloatOps F] (main_arg0 : FVec F S4096x64 .f32) (main_arg1 : IVec S17 32) (main_arg2 : FVec F S128x64 .f32) (main_arg3 : FVec F S64 .f32) (main_arg4 : FVec F S64x64 .f32) (main_arg5 : FVec F S64 .f32) (main_arg6 : FVec F S64x64 .f32) (main_arg7 : FVec F S64 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : IVec S17 32 := iotaInDim S17 32 0
  let main_c_2 : IVec S_ 32 := constantI S_ 32 256#32
  let main_v10 : IVec S17 32 := broadcastInDim S17 ![] bcast_S_S17 main_c_2
  let main_v11 : IVec S17 32 := muli main_v10 main_v9
  let main_v12 : IVec S17 1 := cmpi .eq main_arg1 main_v11
  let main_c_3 : IVec S_ 1 := constantI S_ 1 1#1
  let main_v13 : IVec S_ 1 := (fun x v => Host.reduce IntOp.andi x v reducesTo_S17_S_d0 h_S_) main_v12 main_c_3
  let main_v14 : IVec S_ 1 := andi main_v8 main_v13
  main_v14
-- ==== Pre_idx_in_rows.lean ====
abbrev S4096x128 : Shape := ⟨2, ![4096, 128]⟩
abbrev S32x30x128 : Shape := ⟨3, ![32, 30, 128]⟩
abbrev S_ : Shape := ⟨0, ![]⟩

class Facts : Prop where
  bcast_S_S32x30x128 : S_.BroadcastsInDim S32x30x128 (![] : Fin 0 → Fin S32x30x128.rank)

variable [Facts]

def fn {F : FTy → Type} [FloatOps F] (main_arg0 : FVec F S4096x128 .f32) (main_arg1 : IVec S32x30x128 32) : IVec S32x30x128 1 :=
  let main_c : IVec S_ 32 := constantI S_ 32 0#32
  let main_v0 : IVec S32x30x128 32 := broadcastInDim S32x30x128 ![] bcast_S_S32x30x128 main_c
  let main_v1 : IVec S32x30x128 1 := cmpi .sge main_arg1 main_v0
  let main_c_0 : IVec S_ 32 := constantI S_ 32 4096#32
  let main_v2 : IVec S32x30x128 32 := broadcastInDim S32x30x128 ![] bcast_S_S32x30x128 main_c_0
  let main_v3 : IVec S32x30x128 1 := cmpi .slt main_arg1 main_v2
  let main_v4 : IVec S32x30x128 1 := andi main_v1 main_v3
  main_v4
-- ==== KernelIdeal.lean ====
abbrev S4096x64 : Shape := ⟨2, ![4096, 64]⟩
abbrev S17 : Shape := ⟨1, ![17]⟩
abbrev S128x64 : Shape := ⟨2, ![128, 64]⟩
abbrev S64 : Shape := ⟨1, ![64]⟩
abbrev S64x64 : Shape := ⟨2, ![64, 64]⟩
abbrev S1x64 : Shape := ⟨2, ![1, 64]⟩
abbrev S4096x32 : Shape := ⟨2, ![4096, 32]⟩
abbrev S4096x128 : Shape := ⟨2, ![4096, 128]⟩
abbrev S256x64 : Shape := ⟨2, ![256, 64]⟩
abbrev S256x32 : Shape := ⟨2, ![256, 32]⟩
abbrev S256x128 : Shape := ⟨2, ![256, 128]⟩
abbrev S256 : Shape := ⟨1, ![256]⟩
abbrev S256x1 : Shape := ⟨2, ![256, 1]⟩
abbrev S256x256 : Shape := ⟨2, ![256, 256]⟩
abbrev S256x2 : Shape := ⟨2, ![256, 2]⟩
abbrev S4096x30 : Shape := ⟨2, ![4096, 30]⟩
abbrev S32x30x128 : Shape := ⟨3, ![32, 30, 128]⟩
abbrev S122880x128 : Shape := ⟨2, ![122880, 128]⟩
abbrev S30x128 : Shape := ⟨2, ![30, 128]⟩
abbrev S128x128 : Shape := ⟨2, ![128, 128]⟩
abbrev S_ : Shape := ⟨0, ![]⟩
abbrev S1x30x128 : Shape := ⟨3, ![1, 30, 128]⟩
abbrev S1x128 : Shape := ⟨2, ![1, 128]⟩
abbrev S128 : Shape := ⟨1, ![128]⟩
abbrev S7680x128 : Shape := ⟨2, ![7680, 128]⟩
abbrev S7680x64 : Shape := ⟨2, ![7680, 64]⟩
abbrev S256x1x64 : Shape := ⟨3, ![256, 1, 64]⟩
abbrev S256x30x64 : Shape := ⟨3, ![256, 30, 64]⟩

abbrev nBuf : Table → Nat
  | .hbm => 21
  | .local .tc .vmem => 21
  | .local .scVector .vmem => 2
  | _ => 0

abbrev bufTy : (tb : Table) → Fin (nBuf tb) → BufTy
  | .hbm, ⟨0, _⟩ => ⟨S4096x64, .f32⟩
  | .hbm, ⟨1, _⟩ => ⟨S17, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S1x64, .f32⟩
  | .hbm, ⟨12, _⟩ => ⟨S4096x32, .i32⟩
  | .hbm, ⟨13, _⟩ => ⟨S4096x64, .f32⟩
  | .hbm, ⟨14, _⟩ => ⟨S4096x128, .f32⟩
  | .hbm, ⟨15, _⟩ => ⟨S4096x30, .i32⟩
  | .hbm, ⟨16, _⟩ => ⟨S32x30x128, .i32⟩
  | .hbm, ⟨17, _⟩ => ⟨S122880x128, .f32⟩
  | .hbm, ⟨18, _⟩ => ⟨S1x64, .f32⟩
  | .hbm, ⟨19, _⟩ => ⟨S1x64, .f32⟩
  | .hbm, ⟨20, _⟩ => ⟨S4096x64, .f32⟩
  | .local .tc .vmem, ⟨0, _⟩ => ⟨S256x64, .f32⟩
  | .local .tc .vmem, ⟨1, _⟩ => ⟨S256x64, .f32⟩
  | .local .tc .vmem, ⟨2, _⟩ => ⟨S64x64, .f32⟩
  | .local .tc .vmem, ⟨3, _⟩ => ⟨S64x64, .f32⟩
  | .local .tc .vmem, ⟨4, _⟩ => ⟨S1x64, .f32⟩
  | .local .tc .vmem, ⟨5, _⟩ => ⟨S256x32, .i32⟩
  | .local .tc .vmem, ⟨6, _⟩ => ⟨S256x32, .i32⟩
  | .local .tc .vmem, ⟨7, _⟩ => ⟨S256x64, .f32⟩
  | .local .tc .vmem, ⟨8, _⟩ => ⟨S256x64, .f32⟩
  | .local .tc .vmem, ⟨9, _⟩ => ⟨S256x128, .f32⟩
  | .local .tc .vmem, ⟨10, _⟩ => ⟨S256x128, .f32⟩
  | .local .tc .vmem, ⟨11, _⟩ => ⟨S7680x128, .f32⟩
  | .local .tc .vmem, ⟨12, _⟩ => ⟨S7680x128, .f32⟩
  | .local .tc .vmem, ⟨13, _⟩ => ⟨S256x64, .f32⟩
  | .local .tc .vmem, ⟨14, _⟩ => ⟨S256x64, .f32⟩
  | .local .tc .vmem, ⟨15, _⟩ => ⟨S64x64, .f32⟩
  | .local .tc .vmem, ⟨16, _⟩ => ⟨S1x64, .f32⟩
  | .local .tc .vmem, ⟨17, _⟩ => ⟨S64x64, .f32⟩
  | .local .tc .vmem, ⟨18, _⟩ => ⟨S1x64, .f32⟩
  | .local .tc .vmem, ⟨19, _⟩ => ⟨S256x64, .f32⟩
  | .local .tc .vmem, ⟨20, _⟩ => ⟨S256x64, .f32⟩
  | .local .scVector .vmem, ⟨0, _⟩ => ⟨S30x128, .i32⟩
  | .local .scVector .vmem, ⟨1, _⟩ => ⟨S128x128, .f32⟩
  | _, _ => ⟨S4096x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => false
  | ⟨12, _⟩ => false
  | ⟨13, _⟩ => false
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTables nBuf rfl bufTy 4 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v4_2_scv : Ref sig .scVector := ⟨.hbm, 14, rfl⟩
abbrev main_v6_scv : Ref sig .scVector := ⟨.hbm, 16, rfl⟩
abbrev main_v7_scv : Ref sig .scVector := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg6_1 : Ref sig .tc := ⟨.vmem, 20, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem6_1 : DmaSem sig := 23
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x32 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_2_r0 : BitVec 32 := 0#32
  let c0_i32_3_r0 : BitVec 32 := 0#32
  ![v1.toNat, 0, 0]
@[reducible] def k1_t1_loop : Scf.Loop 32 :=
  let c0_i32_0 : BitVec 32 := 0#32
  let c30_i32 : BitVec 32 := 30#32
  let v3 : BitVec 32 := Scalar.addi c0_i32_0 c30_i32
  let c1_i32 : BitVec 32 := 1#32
  ⟨c0_i32_0, v3, c1_i32⟩
def k1_off2 (k1_t1 : Fin k1_t1_loop.trips) : Fin 2 → Nat :=
  let c0_i32_0 : BitVec 32 := 0#32
  let c1_i32 : BitVec 32 := 1#32
  let arg8 : BitVec 32 := Scf.iv c0_i32_0 c1_i32 k1_t1
  let c0_i32_2 : BitVec 32 := 0#32
  ![arg8.toNat, 0]
def k1_off3 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3840_i32 : BitVec 32 := 3840#32
  let v2 : BitVec 32 := Scalar.muli v1 c3840_i32
  let c0_i32_0 : BitVec 32 := 0#32
  let c1_i32 : BitVec 32 := 1#32
  let arg8 : BitVec 32 := Scf.iv c0_i32_0 c1_i32 k1_t1
  let c128_i32 : BitVec 32 := 128#32
  let v10 : BitVec 32 := Scalar.muli arg8 c128_i32
  let v11 : BitVec 32 := Scalar.addi v2 v10
  let c0_i32_8_r1 : BitVec 32 := 0#32
  ![v11.toNat, 0]
abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S7680x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S256x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x64 : Shape := ⟨2, ![4096, 64]⟩
abbrev S17 : Shape := ⟨1, ![17]⟩
abbrev S128x64 : Shape := ⟨2, ![128, 64]⟩
abbrev S64 : Shape := ⟨1, ![64]⟩
abbrev S64x64 : Shape := ⟨2, ![64, 64]⟩
abbrev S1x17 : Shape := ⟨2, ![1, 17]⟩
abbrev S4096 : Shape := ⟨1, ![4096]⟩
abbrev S4096x1 : Shape := ⟨2, ![4096, 1]⟩
abbrev S4096x17 : Shape := ⟨2, ![4096, 17]⟩
abbrev S_ : Shape := ⟨0, ![]⟩
abbrev S1x4096 : Shape := ⟨2, ![1, 4096]⟩
abbrev S4096x4096 : Shape := ⟨2, ![4096, 4096]⟩
abbrev S64x4096 : Shape := ⟨2, ![64, 4096]⟩
abbrev S4096x31 : Shape := ⟨2, ![4096, 31]⟩
abbrev S4096x30 : Shape := ⟨2, ![4096, 30]⟩
abbrev S4096x30x1 : Shape := ⟨3, ![4096, 30, 1]⟩
abbrev S1 : Shape := ⟨1, ![1]⟩
abbrev S1x1x1 : Shape := ⟨3, ![1, 1, 1]⟩
abbrev S4096x30x64 : Shape := ⟨3, ![4096, 30, 64]⟩
abbrev S4096x1x64 : Shape := ⟨3, ![4096, 1, 64]⟩
abbrev S4096x30x128 : Shape := ⟨3, ![4096, 30, 128]⟩
abbrev S1x1x64 : Shape := ⟨3, ![1, 1, 64]⟩

abbrev nBuf : Space → Nat
  | .hbm => 97
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S17, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x17, .i32⟩
  | .hbm, ⟨9, _⟩ => ⟨S4096, .i32⟩
  | .hbm, ⟨10, _⟩ => ⟨S4096x1, .i32⟩
  | .hbm, ⟨11, _⟩ => ⟨S4096x17, .i32⟩
  | .hbm, ⟨12, _⟩ => ⟨S4096x17, .i32⟩
  | .hbm, ⟨13, _⟩ => ⟨S4096x17, .i1⟩
  | .hbm, ⟨14, _⟩ => ⟨S4096x17, .i32⟩
  | .hbm, ⟨15, _⟩ => ⟨S_, .i32⟩
  | .hbm, ⟨16, _⟩ => ⟨S4096, .i32⟩
  | .hbm, ⟨17, _⟩ => ⟨S_, .i32⟩
  | .hbm, ⟨18, _⟩ => ⟨S4096, .i32⟩
  | .hbm, ⟨19, _⟩ => ⟨S4096, .i32⟩
  | .hbm, ⟨20, _⟩ => ⟨S4096x64, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S1x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S64x4096, .f32⟩
  | .hbm, ⟨29, _⟩ => ⟨S4096x4096, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S4096x1, .i32⟩
  | .hbm, ⟨35, _⟩ => ⟨S1x4096, .i32⟩
  | .hbm, ⟨36, _⟩ => ⟨S4096x4096, .i32⟩
  | .hbm, ⟨37, _⟩ => ⟨S4096x4096, .i32⟩
  | .hbm, ⟨38, _⟩ => ⟨S4096x4096, .i1⟩
  | .hbm, ⟨39, _⟩ => ⟨S_, .f32⟩
  | .hbm, ⟨40, _⟩ => ⟨S_, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S4096x31, .f32⟩
  | .hbm, ⟨45, _⟩ => ⟨S4096x31, .i32⟩
  | .hbm, ⟨46, _⟩ => ⟨S4096x30, .i32⟩
  | .hbm, ⟨47, _⟩ => ⟨S_, .i32⟩
  | .hbm, ⟨48, _⟩ => ⟨S4096x30, .i32⟩
  | .hbm, ⟨49, _⟩ => ⟨S4096x30, .i1⟩
  | .hbm, ⟨50, _⟩ => ⟨S_, .i32⟩
  | .hbm, ⟨51, _⟩ => ⟨S4096x30, .i32⟩
  | .hbm, ⟨52, _⟩ => ⟨S4096x30, .i32⟩
  | .hbm, ⟨53, _⟩ => ⟨S4096x30, .i32⟩
  | .hbm, ⟨54, _⟩ => ⟨S4096x30x1, .i32⟩
  | .hbm, ⟨55, _⟩ => ⟨S1, .i32⟩
  | .hbm, ⟨56, _⟩ => ⟨S_, .i32⟩
  | .hbm, ⟨57, _⟩ => ⟨S4096x30x1, .i32⟩
  | .hbm, ⟨58, _⟩ => ⟨S4096x30x1, .i1⟩
  | .hbm, ⟨59, _⟩ => ⟨S1x1x1, .i32⟩
  | .hbm, ⟨60, _⟩ => ⟨S4096x30x1, .i32⟩
  | .hbm, ⟨61, _⟩ => ⟨S4096x30x1, .i1⟩
  | .hbm, ⟨62, _⟩ => ⟨S4096x30x1, .i1⟩
  | .hbm, ⟨63, _⟩ => ⟨S_, .i1⟩
  | .hbm, ⟨64, _⟩ => ⟨S4096x30, .i1⟩
  | .hbm, ⟨65, _⟩ => ⟨S4096x30x64, .f32⟩
  | .hbm, ⟨66, _⟩ => ⟨S4096x30x64, .i1⟩
  | .hbm, ⟨67, _⟩ => ⟨S_, .f32⟩
  | .hbm, ⟨68, _⟩ => ⟨S4096x30x64, .f32⟩
  | .hbm, ⟨69, _⟩ => ⟨S4096x30x64, .f32⟩
  | .hbm, ⟨70, _⟩ => ⟨S4096x1x64, .f32⟩
  | .hbm, ⟨71, _⟩ => ⟨S4096x30x64, .f32⟩
  | .hbm, ⟨72, _⟩ => ⟨S4096x30x64, .f32⟩
  | .hbm, ⟨73, _⟩ => ⟨S4096x30x128, .f32⟩
  | .hbm, ⟨74, _⟩ => ⟨S4096x30x64, .f32⟩
  | .hbm, ⟨75, _⟩ => ⟨S1x1x64, .f32⟩
  | .hbm, ⟨76, _⟩ => ⟨S4096x30x64, .f32⟩
  | .hbm, ⟨77, _⟩ => ⟨S4096x30x64, .f32⟩
  | .hbm, ⟨78, _⟩ => ⟨S_, .f32⟩
  | .hbm, ⟨79, _⟩ => ⟨S4096x30x64, .f32⟩
  | .hbm, ⟨80, _⟩ => ⟨S4096x30x64, .f32⟩
  | .hbm, ⟨81, _⟩ => ⟨S4096x30x64, .f32⟩
  | .hbm, ⟨82, _⟩ => ⟨S1x1x64, .f32⟩
  | .hbm, ⟨83, _⟩ => ⟨S4096x30x64, .f32⟩
  | .hbm, ⟨84, _⟩ => ⟨S4096x30x64, .f32⟩
  | .hbm, ⟨85, _⟩ => ⟨S_, .f32⟩
  | .hbm, ⟨86, _⟩ => ⟨S4096x30x64, .f32⟩
  | .hbm, ⟨87, _⟩ => ⟨S4096x30x64, .f32⟩
  | .hbm, ⟨88, _⟩ => ⟨S4096x30x64, .f32⟩
  | .hbm, ⟨89, _⟩ => ⟨S1x1x64, .f32⟩
  | .hbm, ⟨90, _⟩ => ⟨S4096x30x64, .f32⟩
  | .hbm, ⟨91, _⟩ => ⟨S4096x30x64, .f32⟩
  | .hbm, ⟨92, _⟩ => ⟨S_, .f32⟩
  | .hbm, ⟨93, _⟩ => ⟨S4096x30x64, .f32⟩
  | .hbm, ⟨94, _⟩ => ⟨S4096x30x64, .f32⟩
  | .hbm, ⟨95, _⟩ => ⟨S_, .f32⟩
  | .hbm, ⟨96, _⟩ => ⟨S4096x64, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_call0_v0 : Ref sig .tc := ⟨.hbm, 40, rfl⟩
abbrev main_call0_v1 : Ref sig .tc := ⟨.hbm, 41, rfl⟩
abbrev main_v27 : Ref sig .tc := ⟨.hbm, 42, rfl⟩
abbrev main_v28 : Ref sig .tc := ⟨.hbm, 43, rfl⟩
abbrev main_values : Ref sig .tc := ⟨.hbm, 44, rfl⟩
abbrev main_indices : Ref sig .tc := ⟨.hbm, 45, rfl⟩
abbrev main_v29 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_cst : Ref sig .tc := ⟨.hbm, 67, rfl⟩
abbrev main_call1_v15 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_call2_cst : Ref sig .tc := ⟨.hbm, 78, rfl⟩
abbrev main_call2_v0 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_call3_cst : Ref sig .tc := ⟨.hbm, 85, rfl⟩
abbrev main_call3_v0 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_call4_cst : Ref sig .tc := ⟨.hbm, 92, rfl⟩
abbrev main_call4_v0 : Ref sig .tc := ⟨.hbm, 93, rfl⟩
abbrev main_v49 : Ref sig .tc := ⟨.hbm, 94, rfl⟩
abbrev main_cst_3 : Ref sig .tc := ⟨.hbm, 95, rfl⟩
abbrev main_v50 : Ref sig .tc := ⟨.hbm, 96, rfl⟩

abbrev nD : Nat := 1
abbrev τ : Topo := Topo.v7x

variable {F : FTy → Type} [FloatOps F]
-- ==== Gather.lean ====
abbrev S4096x128 : Shape := ⟨2, ![4096, 128]⟩
abbrev S32x30x128 : Shape := ⟨3, ![32, 30, 128]⟩
abbrev S122880x128 : Shape := ⟨2, ![122880, 128]⟩
abbrev S30x128 : Shape := ⟨2, ![30, 128]⟩
abbrev S128x128 : Shape := ⟨2, ![128, 128]⟩
abbrev S_ : Shape := ⟨0, ![]⟩
abbrev S1x30x128 : Shape := ⟨3, ![1, 30, 128]⟩
abbrev S1x128 : Shape := ⟨2, ![1, 128]⟩
abbrev S128 : Shape := ⟨1, ![128]⟩

abbrev nBuf : Table → Nat
  | .hbm => 3
  | .local .scVector .vmem => 2
  | _ => 0

abbrev bufTy : (tb : Table) → Fin (nBuf tb) → BufTy
  | .hbm, ⟨0, _⟩ => ⟨S4096x128, .f32⟩
  | .hbm, ⟨1, _⟩ => ⟨S32x30x128, .i32⟩
  | .hbm, ⟨2, _⟩ => ⟨S122880x128, .f32⟩
  | .local .scVector .vmem, ⟨0, _⟩ => ⟨S30x128, .i32⟩
  | .local .scVector .vmem, ⟨1, _⟩ => ⟨S128x128, .f32⟩
  | _, _ => ⟨S4096x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_2_r0 : BitVec 32 := 0#32
  let c0_i32_3_r0 : BitVec 32 := 0#32
  ![v1.toNat, 0, 0]
@[reducible] def k0_t1_loop : Scf.Loop 32 :=
  let c0_i32_0 : BitVec 32 := 0#32
  let c30_i32 : BitVec 32 := 30#32
  let v3 : BitVec 32 := Scalar.addi c0_i32_0 c30_i32
  let c1_i32 : BitVec 32 := 1#32
  ⟨c0_i32_0, v3, c1_i32⟩
def k0_off2 (k0_t1 : Fin k0_t1_loop.trips) : Fin 2 → Nat :=
  let c0_i32_0 : BitVec 32 := 0#32
  let c1_i32 : BitVec 32 := 1#32
  let arg8 : BitVec 32 := Scf.iv c0_i32_0 c1_i32 k0_t1
  let c0_i32_2 : BitVec 32 := 0#32
  ![arg8.toNat, 0]
def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3840_i32 : BitVec 32 := 3840#32
  let v2 : BitVec 32 := Scalar.muli v1 c3840_i32
  let c0_i32_0 : BitVec 32 := 0#32
  let c1_i32 : BitVec 32 := 1#32
  let arg8 : BitVec 32 := Scf.iv c0_i32_0 c1_i32 k0_t1
  let c128_i32 : BitVec 32 := 128#32
  let v10 : BitVec 32 := Scalar.muli arg8 c128_i32
  let v11 : BitVec 32 := Scalar.addi v2 v10
  let c0_i32_8_r1 : BitVec 32 := 0#32
  ![v11.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== GatherReferenceIdeal.lean ====
abbrev S4096x128 : Shape := ⟨2, ![4096, 128]⟩
abbrev S32x30x128 : Shape := ⟨3, ![32, 30, 128]⟩
abbrev S122880 : Shape := ⟨1, ![122880]⟩
abbrev S_ : Shape := ⟨0, ![]⟩
abbrev S122880x1 : Shape := ⟨2, ![122880, 1]⟩
abbrev S1 : Shape := ⟨1, ![1]⟩
abbrev S1x1 : Shape := ⟨2, ![1, 1]⟩
abbrev S122880x128 : Shape := ⟨2, ![122880, 128]⟩

abbrev nBuf : Space → Nat
  | .hbm => 26
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S32x30x128, .i32⟩
  | .hbm, ⟨2, _⟩ => ⟨S122880, .i32⟩
  | .hbm, ⟨3, _⟩ => ⟨S_, .i32⟩
  | .hbm, ⟨4, _⟩ => ⟨S122880, .i32⟩
  | .hbm, ⟨5, _⟩ => ⟨S122880, .i1⟩
  | .hbm, ⟨6, _⟩ => ⟨S_, .i32⟩
  | .hbm, ⟨7, _⟩ => ⟨S122880, .i32⟩
  | .hbm, ⟨8, _⟩ => ⟨S122880, .i32⟩
  | .hbm, ⟨9, _⟩ => ⟨S122880, .i32⟩
  | .hbm, ⟨10, _⟩ => ⟨S122880x1, .i32⟩
  | .hbm, ⟨11, _⟩ => ⟨S1, .i32⟩
  | .hbm, ⟨12, _⟩ => ⟨S_, .i32⟩
  | .hbm, ⟨13, _⟩ => ⟨S122880x1, .i32⟩
  | .hbm, ⟨14, _⟩ => ⟨S122880x1, .i1⟩
  | .hbm, ⟨15, _⟩ => ⟨S1x1, .i32⟩
  | .hbm, ⟨16, _⟩ => ⟨S122880x1, .i32⟩
  | .hbm, ⟨17, _⟩ => ⟨S122880x1, .i1⟩
  | .hbm, ⟨18, _⟩ => ⟨S122880x1, .i1⟩
  | .hbm, ⟨19, _⟩ => ⟨S_, .i1⟩
  | .hbm, ⟨20, _⟩ => ⟨S122880, .i1⟩
  | .hbm, ⟨21, _⟩ => ⟨S122880x128, .f32⟩
  | .hbm, ⟨22, _⟩ => ⟨S122880x128, .i1⟩
  | .hbm, ⟨23, _⟩ => ⟨S_, .f32⟩
  | .hbm, ⟨24, _⟩ => ⟨S122880x128, .f32⟩
  | .hbm, ⟨25, _⟩ => ⟨S122880x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩

abbrev nD : Nat := 1
abbrev τ : Topo := Topo.v7x

variable {F : FTy → Type} [FloatOps F]
-- ==== Proof.GatherIdealTile.lean ====
/-
  One vector subcore's part of the gather. Tile `(c, s)` has number `w = 2 s + c`. It copies list `w` of the indices
  (30 chunks of 128 row numbers) into its own memory; then, thirty times, it gathers the 128 rows of the table that
  chunk `j` names into a buffer and copies the buffer out to rows `3840 w + 128 j …` of the result.

  Stated here, for any float instance and any contents of the table (`tab`) and of the index lists (`ids`) whose words
  all name rows of the table: the tile's task returns its list, its share of the table and its thirty blocks of the
  result, each block holding exactly the rows its chunk names (`rowsOf`).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.GatherIdeal
public import proofs.«01_k».proof.Proof.Gen.GatherIdeal.Skeleton

@[expose] public section

noncomputable section

namespace Cert.Proof.GatherIdealTile

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

abbrev tLoc (d : Dev nD) : Loc nD τ sig := (SparseCore.T d).loc main_arg0
abbrev iLoc (d : Dev nD) : Loc nD τ sig := (SparseCore.T d).loc main_arg1
abbrev oLoc (d : Dev nD) : Loc nD τ sig := (SparseCore.T d).loc main_v0

local notation "tV" => (Memref.whole Cert.GatherIdeal.main_arg0_scv : Memref Cert.GatherIdeal.sig Kind.scVector Space.hbm Cert.GatherIdeal.S4096x128 EltTy.f32)
local notation "iV" => (Memref.whole Cert.GatherIdeal.main_arg1_scv : Memref Cert.GatherIdeal.sig Kind.scVector Space.hbm Cert.GatherIdeal.S32x30x128 EltTy.i32)
local notation "oV" => (Memref.whole Cert.GatherIdeal.main_v0_scv : Memref Cert.GatherIdeal.sig Kind.scVector Space.hbm Cert.GatherIdeal.S122880x128 EltTy.f32)
local notation "sV" => (Memref.whole Cert.GatherIdeal.cc0_scratch0 : Memref Cert.GatherIdeal.sig Kind.scVector Space.vmem Cert.GatherIdeal.S30x128 EltTy.i32)
local notation "rV" => (Memref.whole Cert.GatherIdeal.cc0_scratch1 : Memref Cert.GatherIdeal.sig Kind.scVector Space.vmem Cert.GatherIdeal.S128x128 EltTy.f32)

/-! ## What the gather computes -/

/-- The row of the table a word names: the row of its value, row 0 if there is none. -/
def rowNo (v : BitVec 32) : Fin 4096 := if h : v.toNat < 4096 then ⟨v.toNat, h⟩ else 0

theorem rowNo_val {v : BitVec 32} (h : v.toNat < 4096) : (rowNo v).val = v.toNat := by rw [rowNo, dif_pos h]

/-- Where row `r` of the result finds its number: list `r / 3840`, chunk `r % 3840 / 128`, place `r % 128`. -/
def place (r : Fin 122880) : S32x30x128.Idx
  | 0 => (⟨r.val / 3840, by have := r.isLt; omega⟩ : Fin 32)
  | 1 => (⟨r.val % 3840 / 128, by omega⟩ : Fin 30)
  | 2 => (⟨r.val % 128, by omega⟩ : Fin 128)
  | ⟨_ + 3, h⟩ => absurd h (Nat.not_lt.2 (Nat.le_add_left _ _))

/-- An index of a table of `n` rows of 128 lanes. -/
def rc {n : ℕ} (r : Fin n) (l : Fin 128) : (⟨2, ![n, 128]⟩ : Shape).Idx
  | 0 => r
  | 1 => l
  | ⟨_ + 2, h⟩ => absurd h (Nat.not_lt.2 (Nat.le_add_left _ _))

theorem rc_ext {n : ℕ} {x y : (⟨2, ![n, 128]⟩ : Shape).Idx} (h0 : (x 0).val = (y 0).val) (h1 : (x 1).val = (y 1).val) : x = y := by
  funext a
  match a with
  | 0 => exact Fin.ext h0
  | 1 => exact Fin.ext h1

/-- The gathered rows: row `r` of the result is the row of the table that `r`'s number names. -/
def rowsOf (tab : S4096x128.Idx → Elt F .f32) (ids : S32x30x128.Idx → Elt F .i32) : S122880x128.Idx → Elt F .f32 :=
  fun x => tab (rc (rowNo (ids (place (x 0)))) (x 1))

/-! ## Parts of the lists and of the result -/

theorem idiv : 32 ∣ S32x30x128.size 0 := ⟨1, rfl⟩
theorem odiv : 960 ∣ S122880x128.size 0 := ⟨128, rfl⟩
/-- List `w` of the indices; block `b` of 128 rows of the result. -/
abbrev ipart (w : Fin 32) : Rect S32x30x128 := Rect.part (s := S32x30x128) (a₀ := 0) idiv w
abbrev opart (b : Fin 960) : Rect S122880x128 := Rect.part (s := S122880x128) (a₀ := 0) odiv b
abbrev iSet (w : Fin 32) : Finset S32x30x128.Idx := ((iV).view.slice (ipart w)).set
abbrev oSet (b : Fin 960) : Finset S122880x128.Idx := ((oV).view.slice (opart b)).set

/-- Block `j` of tile `w`. -/
def blk (w : Fin 32) (j : Fin 30) : Fin 960 := ⟨30 * w.val + j.val, by have := w.isLt; have := j.isLt; omega⟩

/-- Tile `w`'s share of the table. -/
abbrev tq (w : Fin 32) : PosShare TreeShare := pieceOf fullShare 32 (by decide) w

variable (tab : (d : Dev nD) → Buf (Elt F) (tLoc d)) (ids : (d : Dev nD) → Buf (Elt F) (iLoc d)) (out : (d : Dev nD) → Buf (Elt F) (oLoc d))

abbrev iPart (d : Dev nD) (w : Fin 32) : sProp 𝕄 := iLoc d ↦[iSet w]{fullShare} ids d
abbrev tPart (d : Dev nD) (w : Fin 32) : sProp 𝕄 := tLoc d ↦{tq w} tab d
abbrev oBlk (d : Dev nD) (b : Fin 960) (f : Buf (Elt F) (oLoc d)) : sProp 𝕄 := oLoc d ↦[oSet b]{fullShare} f

/-- What tile `w` is handed, and what it brings back. -/
def given (d : Dev nD) (w : Fin 32) : sProp 𝕄 :=
  iprop(iPart ids d w ∗ tPart tab d w ∗ bigSep Finset.univ fun j : Fin 30 => oBlk d (blk w j) (out d))
def brought (d : Dev nD) (w : Fin 32) : sProp 𝕄 :=
  iprop(iPart ids d w ∗ tPart tab d w ∗ bigSep Finset.univ fun j : Fin 30 => oBlk d (blk w j) (rowsOf (tab d) (ids d)))

instance given_storable (d : Dev nD) (w : Fin 32) : BI.Storable (upEmb : UEmb _ 𝕄) (given tab ids out d w) := by
  unfold given; infer_instance
instance brought_storable (d : Dev nD) (w : Fin 32) : BI.Storable (upEmb : UEmb _ 𝕄) (brought tab ids d w) := by
  unfold brought; infer_instance

/-! ## The task -/

variable [FloatOps F]

section Tile

variable (d : Dev nD) (L : grid0.Coords)

abbrev cV (L : grid0.Coords) : Fin τ.nSC := (L 0).castLE hcore0
abbrev jV (L : grid0.Coords) : Fin τ.nSub := (L 1).castLE hsub0
/-- The tile's number. -/
def wL (L : grid0.Coords) : Fin 32 := ⟨2 * (L 1).val + (L 0).val, by
  have h0 : (L 0).val < 2 := (L 0).isLt
  have h1 : (L 1).val < 16 := (L 1).isLt
  omega⟩

abbrev iRect (L : grid0.Coords) : Rect S32x30x128 := Rect.unit (s := S32x30x128) (k0_off1 L) S1x30x128.size (k0_off1_inb L)
abbrev oRect (L : grid0.Coords) (j : Fin k0_t1_loop.trips) : Rect S122880x128 :=
  Rect.unit (s := S122880x128) (k0_off3 L j) S128x128.size (k0_off3_inb L j)
abbrev sRect (j : Fin k0_t1_loop.trips) : Rect S30x128 := Rect.unit (s := S30x128) (k0_off2 j) S1x128.size (k0_off2_inb j)

/-- The tile's list, its chunk `j` in the tile's memory, block `j` of the result and the table, as the task addresses them. -/
abbrev iM (L : grid0.Coords) : Memref sig .scVector .hbm S30x128 .i32 :=
  ((iV).slice (iRect L) (fun _ => rfl)).squeeze S30x128 squeezes_S1x30x128_S30x128
abbrev sM (j : Fin k0_t1_loop.trips) : Memref sig .scVector .vmem S128 .i32 :=
  ((sV).slice (sRect j) (fun _ => rfl)).squeeze S128 squeezes_S1x128_S128
abbrev oM (L : grid0.Coords) (j : Fin k0_t1_loop.trips) : Memref sig .scVector .hbm S128x128 .f32 :=
  (oV).slice (oRect L j) (fun _ => rfl)
abbrev tM : Memref sig .scVector .hbm S4096x128 .f32 :=
  (tV).slice (Rect.unit (s := S4096x128) ![0, 0] S4096x128.size inb_S4096x128_S4096x128_0_0) (fun _ => rfl)

theorem trips_eq : k0_t1_loop.trips = 30 := by decide +kernel
abbrev ch (j : Fin k0_t1_loop.trips) : Fin 30 := j.cast trips_eq

omit [FloatOps F] in
theorem iRect_eq : iRect L = ipart (wL L) := by
  unfold iRect ipart Rect.part Rect.block
  congr 1 <;> funext a
  · rw [k0_off1_eq]
    match a with
    | 0 => simp [Shape.partIx, Shape.partSize, wL]
    | 1 => simp [Shape.partIx, Shape.partSize]
    | 2 => simp [Shape.partIx, Shape.partSize]
  · match a with
    | 0 => simp [Shape.partSize]
    | 1 => simp [Shape.partSize]
    | 2 => simp [Shape.partSize]

omit [FloatOps F] in
theorem oRect_eq (j : Fin k0_t1_loop.trips) : oRect L j = opart (blk (wL L) (ch j)) := by
  unfold oRect opart Rect.part Rect.block
  congr 1 <;> funext a
  · rw [k0_off3_eq]
    match a with
    | 0 => simp [Shape.partIx, Shape.partSize, wL, blk]; omega
    | 1 => simp [Shape.partIx, Shape.partSize]
  · match a with
    | 0 => simp [Shape.partSize]
    | 1 => simp [Shape.partSize]

omit [FloatOps F] in
theorem set_iM : (iM L).view.set = iSet (wL L) := by
  show (((iV).view.slice (iRect L)).reshape S30x128 squeezes_S1x30x128_S30x128.numel_eq).set = ((iV).view.slice (ipart (wL L))).set
  rw [View.set_reshape]
  exact iRect_eq L ▸ rfl
omit [FloatOps F] in
theorem set_oM (j : Fin k0_t1_loop.trips) : (oM L j).view.set = oSet (blk (wL L) (ch j)) := by
  show ((oV).view.slice (oRect L j)).set = ((oV).view.slice (opart (blk (wL L) (ch j)))).set
  exact oRect_eq L j ▸ rfl

omit [FloatOps F] in
theorem pts_iM (f : Buf (Elt F) (iLoc d)) :
    ((iM L).view.loc (V d (cV L) (jV L)) ↦[(iM L).view.set]{fullShare} f : sProp 𝕄) = iLoc d ↦[iSet (wL L)]{fullShare} f := by
  rw [set_iM]
omit [FloatOps F] in
theorem pts_oM (j : Fin k0_t1_loop.trips) (f : Buf (Elt F) (oLoc d)) :
    ((oM L j).view.loc (V d (cV L) (jV L)) ↦[(oM L j).view.set]{fullShare} f : sProp 𝕄) = oLoc d ↦[oSet (blk (wL L) (ch j))]{fullShare} f := by
  rw [set_oM]
omit [FloatOps F] in
theorem pts_tV (q : PosShare TreeShare) (f : Buf (Elt F) (tLoc d)) :
    ((tV).view.loc (V d (cV L) (jV L)) ↦{q} f : sProp 𝕄) = tLoc d ↦{q} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

abbrev gCell (d : Dev nD) (c : Fin τ.nSC) (i : Fin τ.nSub) : GSem nD τ sig := (V d c i, .dma cc0_scratch2.sem)
abbrev lCell (d : Dev nD) (c : Fin τ.nSC) (i : Fin τ.nSub) : GSem nD τ sig := (V d c i, .dma cc0_scoped0.sem)
abbrev wCell (d : Dev nD) (c : Fin τ.nSC) (i : Fin τ.nSub) : GSem nD τ sig := (V d c i, .dma cc0_scoped1.sem)

omit [FloatOps F] in
/-- The tile's three DMA semaphores among its own. -/
theorem ownSems0_V :
    (ownSems0 (V d (cV L) (jV L)) : sProp 𝕄)
      = iprop(semVal (gCell d (cV L) (jV L)) 0 ∗ semVal (lCell d (cV L) (jV L)) 0 ∗ semVal (wCell d (cV L) (jV L)) 0
          ∗ bigSep ((((ownCells (V d (cV L) (jV L))).erase (gCell d (cV L) (jV L))).erase (lCell d (cV L) (jV L))).erase (wCell d (cV L) (jV L))) fun g => semVal g 0) := by
  unfold SparseCore.Cfg.ownSems0
  rw [SparseCore.bigSep_erase' ((mem_ownCells (g := gCell d (cV L) (jV L))).mpr ⟨rfl, by
      show (SemLoc.dma cc0_scratch2.sem : SemLoc sig).isScoped .scVector = true; decide⟩),
    SparseCore.bigSep_erase' (Finset.mem_erase.mpr ⟨by simp [gCell, lCell]; decide, (mem_ownCells (g := lCell d (cV L) (jV L))).mpr ⟨rfl, by
      show (SemLoc.dma cc0_scoped0.sem : SemLoc sig).isScoped .scVector = true; decide⟩⟩),
    SparseCore.bigSep_erase' (Finset.mem_erase.mpr ⟨by simp [lCell, wCell]; decide, Finset.mem_erase.mpr ⟨by simp [gCell, wCell]; decide,
      (mem_ownCells (g := wCell d (cV L) (jV L))).mpr ⟨rfl, by show (SemLoc.dma cc0_scoped1.sem : SemLoc sig).isScoped .scVector = true; decide⟩⟩⟩)]

omit [FloatOps F] in
/-- The tile's two scratch buffers among its own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ### The values -/

/-- The tile's list, as its index buffer holds it. -/
abbrev list (d : Dev nD) (L : grid0.Coords) : S30x128.Idx → Elt F .i32 := (iM L).view.read (Elt F) (ids d)

/-- Place `(w, j, l)` of the index lists. -/
def at3 (w : Fin 32) (j : Fin 30) (l : Fin 128) : S32x30x128.Idx
  | 0 => w
  | 1 => j
  | 2 => l
  | ⟨_ + 3, h⟩ => absurd h (Nat.not_lt.2 (Nat.le_add_left _ _))

omit [FloatOps F] in
/-- Chunk `j` of the tile's list, read at place `l`, is word `(w, j, l)` of the index lists. -/
theorem read_chunk (j : Fin k0_t1_loop.trips) (l : S128.Idx) :
    (sM j).view.read (Elt F) (list ids d L : Buf (Elt F) ((V d (cV L) (jV L)).loc cc0_scratch0)) l = ids d (at3 (wL L) (ch j) (l 0)) := by
  have e1 : (sM j).view.emb l = (rc (ch j) (l 0) : S30x128.Idx) := by
    show (sRect j).emb (Shape.reshapeEquiv squeezes_S1x128_S128.numel_eq l) = _
    rw [show Shape.reshapeEquiv squeezes_S1x128_S128.numel_eq l = Fin.cons ⟨0, Nat.one_pos⟩ l from Shape.reshapeEquiv_cons_one _ l]
    refine rc_ext ?_ ?_
    · show (k0_off2 j) 0 + 1 * 0 = j.val
      rw [k0_off2_eq]; simp
    · show (k0_off2 j) 1 + 1 * (l 0).val = (l 0).val
      rw [k0_off2_eq]; simp
  have e2 : ∀ y : S30x128.Idx, (iM L).view.emb y = at3 (wL L) (y 0) (y 1) := by
    intro y
    show (iRect L).emb (Shape.reshapeEquiv squeezes_S1x30x128_S30x128.numel_eq y) = _
    rw [show Shape.reshapeEquiv squeezes_S1x30x128_S30x128.numel_eq y = Fin.cons ⟨0, Nat.one_pos⟩ y from Shape.reshapeEquiv_cons_one _ y]
    funext a
    match a with
    | 0 => refine Fin.ext ?_; show (k0_off1 L) 0 + 1 * 0 = 2 * (L 1).val + (L 0).val; rw [k0_off1_eq]; simp
    | 1 => refine Fin.ext ?_; show (k0_off1 L) 1 + 1 * (y 0).val = (y 0).val; rw [k0_off1_eq]; simp
    | 2 => refine Fin.ext ?_; show (k0_off1 L) 2 + 1 * (y 1).val = (y 1).val; rw [k0_off1_eq]; simp
  show ids d ((iM L).view.emb ((sM j).view.emb l)) = _
  rw [e1, e2]; rfl

/-- Every word of the lists names a row of the table. -/
def InRows (ids : (d : Dev nD) → Buf (Elt F) (iLoc d)) : Prop := ∀ (d : Dev nD) (x : S32x30x128.Idx), (ids d x : BitVec 32).toNat < 4096

omit [FloatOps F] in
theorem chunk_in (hids : InRows ids) (j : Fin k0_t1_loop.trips) (l : S128.Idx) :
    ((sM j).view.read (Elt F) (list ids d L : Buf (Elt F) ((V d (cV L) (jV L)).loc cc0_scratch0)) l).toNat
      < S4096x128.size gathers_S4096x128_S128x128.axis := by
  rw [read_chunk]; exact hids d _

/-- The buffer after the gather of chunk `j`. -/
abbrev gathered (hids : InRows ids) (j : Fin k0_t1_loop.trips) : S128x128.Idx → Elt F .f32 :=
  SparseCore.gatherPayload gathers_S4096x128_S128x128 ((tM).view.read (Elt F) (tab d))
    (SparseCore.rows ((sM j).view.read (Elt F) (list ids d L : Buf (Elt F) ((V d (cV L) (jV L)).loc cc0_scratch0))) rfl (chunk_in ids d L hids j))

omit [FloatOps F] in
/-- Block `j` of the result, written with the gathered buffer, agrees on the block with the gathered rows. -/
theorem block_value (hids : InRows ids) (j : Fin k0_t1_loop.trips) (f : Buf (Elt F) (oLoc d)) :
    ∀ x ∈ oSet (blk (wL L) (ch j)),
      (oM L j).view.write (Elt F) f (gathered tab ids d L hids j) Finset.univ x = rowsOf (tab d) (ids d) x := by
  intro x hx
  rw [← set_oM] at hx
  obtain ⟨y, -, rfl⟩ := Finset.mem_map.mp hx
  rw [View.write_emb_of_mem _ _ (Finset.mem_univ y)]
  have w0 : (wL L).val = 2 * (L 1).val + (L 0).val := rfl
  have hj : j.val < 30 := trips_eq ▸ j.isLt
  have hy0 : (y 0).val < 128 := (y 0).isLt
  have e0 : (((oM L j).view.emb y) 0).val = 3840 * (wL L).val + 128 * j.val + (y 0).val := by
    show (k0_off3 L j) 0 + 1 * (y 0).val = _
    rw [k0_off3_eq]; simp [wL]; omega
  have e1 : (((oM L j).view.emb y) 1).val = (y 1).val := by
    show (k0_off3 L j) 1 + 1 * (y 1).val = _
    rw [k0_off3_eq]; simp
  have ep : place (((oM L j).view.emb y) 0) = at3 (wL L) (ch j) (y 0) := by
    funext a
    match a with
    | 0 => refine Fin.ext ?_; show (((oM L j).view.emb y) 0).val / 3840 = (wL L).val; rw [e0]; omega
    | 1 => refine Fin.ext ?_; show (((oM L j).view.emb y) 0).val % 3840 / 128 = j.val; rw [e0]; omega
    | 2 => refine Fin.ext ?_; show (((oM L j).view.emb y) 0).val % 128 = (y 0).val; rw [e0]; omega
  have key : ∀ (l : S128.Idx), (l 0).val = (y 0).val →
      (((sM j).view.read (Elt F) (list ids d L : Buf (Elt F) ((V d (cV L) (jV L)).loc cc0_scratch0)) l : BitVec 32)).toNat
        = (rowNo (ids d (place (((oM L j).view.emb y) 0)))).val := by
    intro l hl
    rw [read_chunk, ep, show (l 0 : Fin 128) = y 0 from Fin.ext hl]
    exact (rowNo_val (hids d _)).symm
  show (tab d) ((tM).view.emb (gathers_S4096x128_S128x128.idx _ y)) = tab d (rc _ _)
  refine congrArg (tab d) (rc_ext ?_ ?_)
  · show 0 + 1 * (gathers_S4096x128_S128x128.idx _ y 0).val = (rowNo _).val
    rw [← key (S128.rowMajor.symm ((y 0 : Fin 128).cast rfl)) ?_]
    · simp only [Nat.zero_add, Nat.one_mul]; rfl
    · have h := congrArg Fin.val (S128.rowMajor.apply_symm_apply ((y 0 : Fin 128).cast rfl))
      exact (Shape.rowMajor_val_one _).symm.trans h
  · show 0 + 1 * (gathers_S4096x128_S128x128.idx _ y 1).val = _
    refine Eq.trans ?_ e1.symm
    rw [Nat.zero_add, Nat.one_mul]
    exact Shape.Gathers.idx_of_ne gathers_S4096x128_S128x128 _ y 1 (by decide)

/-! ### The loop -/

/-- The blocks of the result after `k` trips: those before `k` gathered, the others as they were. -/
def blocks (d : Dev nD) (w : Fin 32) (k : ℕ) : sProp 𝕄 :=
  bigSep Finset.univ fun j : Fin 30 => oBlk d (blk w j) (if j.val < k then rowsOf (tab d) (ids d) else out d)

omit [FloatOps F] in
/-- Block `j` taken out before trip `j`, as the task addresses it. -/
theorem blocks_take (j : Fin k0_t1_loop.trips) :
    blocks tab ids out d (wL L) j.val ⊢ (iprop(((oM L j).view.loc (V d (cV L) (jV L)) ↦[(oM L j).view.set]{fullShare} out d)
      ∗ bigSep (Finset.univ.erase (ch j)) fun i : Fin 30 => oBlk d (blk (wL L) i) (if i.val < j.val then rowsOf (tab d) (ids d) else out d)) : sProp 𝕄) := by
  unfold blocks
  rw [SparseCore.bigSep_erase' (Finset.mem_univ (ch j)), pts_oM, if_neg (show ¬ (ch j).val < j.val from Nat.lt_irrefl _)]

omit [FloatOps F] in
/-- Put back after it, holding the gathered rows. -/
theorem blocks_put (hids : InRows ids) (j : Fin k0_t1_loop.trips) :
    (iprop(((oM L j).view.loc (V d (cV L) (jV L)) ↦[(oM L j).view.set]{fullShare}
          ((oM L j).view.writes (Elt F) (out d) [⟨Rect.whole S128x128, gathered tab ids d L hids j⟩] : Buf (Elt F) (oLoc d)))
      ∗ bigSep (Finset.univ.erase (ch j)) fun i : Fin 30 => oBlk d (blk (wL L) i) (if i.val < j.val then rowsOf (tab d) (ids d) else out d)) : sProp 𝕄)
      ⊢ blocks tab ids out d (wL L) (j.val + 1) := by
  unfold blocks
  rw [show (oM L j).view.writes (Elt F) (out d) [⟨Rect.whole S128x128, gathered tab ids d L hids j⟩]
      = (oM L j).view.write (Elt F) (out d) (gathered tab ids d L hids j) Finset.univ
      from (View.write_univ_eq_writes_whole (oM L j).view (out d) [] (gathered tab ids d L hids j)).symm]
  rw [SparseCore.bigSep_erase' (Finset.mem_univ (ch j)), pts_oM, if_pos (show (ch j).val < j.val + 1 from Nat.lt_succ_self _)]
  rw [show (oLoc d ↦[oSet (blk (wL L) (ch j))]{fullShare} ((oM L j).view.write (Elt F) (out d) (gathered tab ids d L hids j) Finset.univ : Buf (Elt F) (oLoc d)) : sProp 𝕄)
      = oBlk d (blk (wL L) (ch j)) (rowsOf (tab d) (ids d)) from pointsTo_congr (block_value tab ids d L hids j (out d))]
  refine Entails.of_eq (congrArg (BI.sep _) (bigSep_congr fun i hi => ?_))
  have hne : i.val ≠ j.val := fun e => (Finset.mem_erase.mp hi).1 (Fin.ext e)
  by_cases h : i.val < j.val
  · rw [if_pos h, if_pos (Nat.lt_succ_of_lt h)]
  · rw [if_neg h, if_neg (fun h' => (Nat.lt_succ_iff_lt_or_eq.mp h').elim h hne)]

/-- The loop's invariant before trip `k`. -/
def inv (O : CellTallies nD τ sig (HIx 1)) (W : Waits sig (HIx 1)) (k : Nat) (_ : PUnit) : sProp 𝕄 :=
  iprop(Transfers.MayWaits (V d (cV L) (jV L)) (default : HIx 1) O
    ∗ ((tV).view.loc (V d (cV L) (jV L)) ↦{tq (wL L)} tab d)
    ∗ ((sV).view.loc (V d (cV L) (jV L)) ↦{fullShare} (list ids d L : Buf (Elt F) ((V d (cV L) (jV L)).loc cc0_scratch0)))
    ∗ (∃ f, (rV).view.loc (V d (cV L) (jV L)) ↦{fullShare} f)
    ∗ semVal (gCell d (cV L) (jV L)) 0 ∗ semVal (wCell d (cV L) (jV L)) 0
    ∗ blocks tab ids out d (wL L) k
    ∗ ∃ W', ⌜∀ p ∈ W', p ∈ W ∨ p.2 = none⌝ ∗ owes (V d (cV L) (jV L)) O W')

omit [FloatOps F] in
/-- A gather's rows credit together what its buffer does. -/
theorem gather_credit (h : S4096x128.Gathers 0 S128x128) :
    ∑ j, ((rV).slice (S128x128.rowRect h.axis' j) (S128x128.stride_rowRect h.axis' j)).view.dmaCredit = (rV).view.dmaCredit := by
  have hrow : ∀ j, ((rV).slice (S128x128.rowRect h.axis' j) (S128x128.stride_rowRect h.axis' j)).view.dmaCredit
      = ((rV).slice (S128x128.rowRect (0 : Fin 2) (0 : Fin 128)) (fun _ => rfl)).view.dmaCredit := fun _ => rfl
  rw [Finset.sum_congr rfl fun j _ => hrow j, Finset.sum_const, Finset.card_univ, Fintype.card_fin]
  show 128 * ((rV).slice (S128x128.rowRect (0 : Fin 2) (0 : Fin 128)) (fun _ => rfl)).view.dmaCredit = (rV).view.dmaCredit
  decide +kernel

set_option maxHeartbeats 4000000 in
/-- The task of tile `(L 0, L 1)`: it returns its list, its share of the table and its blocks, gathered. -/
theorem tile_body (hF : (K (F := F)).Facts) (hids : InRows ids) (O : CellTallies nD τ sig (HIx 1)) (W : Waits sig (HIx 1)) (hO : ∀ g, O g none = 0) :
    iprop(levAts (K (F := F)).L (K (F := F)).lev ∗ emp ∗ given tab ids out d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather_body L tV (Memref.isWhole_whole _) iV (Memref.isWhole_whole _) oV (Memref.isWhole_whole _)
            sV (Memref.isWhole_whole _) rV (Memref.isWhole_whole _) cc0_scratch2 cc0_scoped0 cc0_scoped1)
          fun _ => iprop(brought tab ids d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  have h0 : (bigSep Finset.univ fun j : Fin 30 => oBlk d (blk (wL L) j) (out d) : sProp 𝕄) = blocks tab ids out d (wL L) 0 := by
    unfold blocks; exact bigSep_congr fun j _ => by rw [if_neg (Nat.not_lt_zero _)]
  have h1 : (bigSep Finset.univ fun j : Fin 30 => oBlk d (blk (wL L) j) (rowsOf (tab d) (ids d)) : sProp 𝕄) = blocks tab ids out d (wL L) k0_t1_loop.trips := by
    unfold blocks; exact bigSep_congr fun j _ => by rw [if_pos (show j.val < k0_t1_loop.trips by rw [trips_eq]; exact j.isLt)]
  unfold given brought
  rw [h0, h1]
  simp only [cc0__sc_gather_body_eq_skeleton]; unfold cc0__sc_gather_body_skel
  rw [(K (F := F)).scopedBufs_V hF d (cV L) (jV L), SparseCore.Cfg.scopedSems0_V (Val := Elt F) d (cV L) (jV L), ownSems0_V, ownBufs_V]
  iintro ⟨#Hlv, -, ⟨Hi, Ht, Ho⟩, ⟨⟨%fs, Hs⟩, ⟨%fr, Hr⟩, Hbufs⟩, ⟨HsemG, HsemL, HsemW, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iM (F := F) d L _).symm) $$ Hi
  ihave Ht' := (Entails.of_eq (pts_tV (F := F) d L _ _).symm) $$ Ht
  ihave Hs' := (Entails.of_eq (pts_sV (F := F) d L _).symm) $$ Hs
  ihave Hr' := (Entails.of_eq (pts_rV (F := F) d L _).symm) $$ Hr
  sl_exec
  ihave Hs2 := (Entails.of_eq (show ((sV).view.loc (V d (cV L) (jV L)) ↦{fullShare} View.write (Elt F) (sV).view fs (tile_body.sl.dma0 ids d L) Finset.univ : sProp 𝕄)
      = ((sV).view.loc (V d (cV L) (jV L)) ↦{fullShare} (list ids d L : Buf (Elt F) ((V d (cV L) (jV L)).loc cc0_scratch0)))
      by rw [View.write_whole_univ]; rfl)) $$ Hs'
  sl_for (inv tab ids out d L O W) $$ [Hmw Ht' Hs2 Hr' HsemG HsemW Ho HO]
  case region =>
    intro k _
    unfold inv
    iintro ⟨#Hmw, Ht, Hs, ⟨%f, Hr⟩, HsemG, HsemW, Hob, %W', %hW', HO⟩
    ihave Ho := (blocks_take tab ids out d L k) $$ Hob
    icases Ho with ⟨Hok, Hor⟩
    ihave Hts := (pointsTo_split_subset (q := tq (wL L)) (f := tab d) (S := Finset.univ) (Finset.subset_univ (tM).view.set)).1 $$ Ht
    icases Hts with ⟨Hts, Htr⟩
    ihave Hss := (pointsTo_split_subset (ℓ := (sV).view.loc (V d (cV L) (jV L))) (q := fullShare) (f := (list ids d L : Buf (Elt F) ((V d (cV L) (jV L)).loc cc0_scratch0))) (S := Finset.univ) (Finset.subset_univ (sM k).view.set)).1 $$ Hs
    icases Hss with ⟨Hss, Hsr⟩
    have hrs : (rV).view.set = Finset.univ := View.set_whole _
    ihave Hr2 := (Entails.of_eq (show ((rV).view.loc (V d (cV L) (jV L)) ↦{fullShare} f : sProp 𝕄)
        = (rV).view.loc (V d (cV L) (jV L)) ↦[(rV).view.set]{fullShare} f by rw [hrs])) $$ Hr
    iapply (SparseCore.wp_indirectGatherLocal countersEmb 𝒱₀ (V d (cV L) (jV L)) none (hg := gathers_S4096x128_S128x128) (default : HIx 1)
        (rV).view.dmaCredit (gather_credit _) (by decide) (chunk_in ids d L hids k)) $$ [Hts Hr2 Hss HsemG]
    · isplitl [Hts]; · iexact Hts
      isplitl [Hr2]; · iexact Hr2
      isplitl [Hss]; · iexact Hss
      iexact HsemG
    iintro Hfl
    sl_exec
    iapply (Transfers.wp_waitLocalO countersEmb 𝒱₀ (V d (cV L) (jV L)) none (default : HIx 1) (rfl : (rV).view.dmaCredit = _)) $$ [Hfl HO]
    · isplitl [Hfl]; · iexact Hfl
      isplitl [HO]; · iexact HO
      iapply (Transfers.MayWaits.elim (SemLoc.dma cc0_scratch2.sem)) $$ Hmw
    iintro ⟨⟨Hr, Hts, Hss⟩, HsemG, HO⟩
    ihave Ht := (pointsTo_split_subset (q := tq (wL L)) (f := tab d) (S := Finset.univ) (Finset.subset_univ (tM).view.set)).2 $$ [Hts Htr]; · isplitl [Hts] <;> iassumption
    ihave Hs := (pointsTo_split_subset (ℓ := (sV).view.loc (V d (cV L) (jV L))) (q := fullShare) (f := (list ids d L : Buf (Elt F) ((V d (cV L) (jV L)).loc cc0_scratch0))) (S := Finset.univ) (Finset.subset_univ (sM k).view.set)).2 $$ [Hss Hsr]; · isplitl [Hss] <;> iassumption
    ihave Hr3 := (Entails.of_eq (show ((rV).view.loc (V d (cV L) (jV L)) ↦[(rV).view.set]{fullShare} _ : sProp 𝕄)
        = (rV).view.loc (V d (cV L) (jV L)) ↦{fullShare} (gathered tab ids d L hids k) by rw [hrs, View.write_whole_univ])) $$ Hr
    sl_exec (disch := exact View.amount_pos _ _ (show 0 < S128x128.numel by decide))
    sl_step
    isplitl [Hmw]; · iexact Hmw
    isplitl [Ht]; · iexact Ht
    isplitl [Hs]; · iexact Hs
    isplitl [Hr3]; · iexists _; iexact Hr3
    isplitl [HsemG]; · iexact HsemG
    isplitl [HsemW]; · iexact HsemW
    isplitl [Hok Hor]
    · iapply (blocks_put tab ids out d L hids k)
      isplitl [Hok]; · iexact Hok
      iexact Hor
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact hW' p hp
  · unfold inv
    isplitl [Hmw]; · iexact Hmw
    isplitl [Ht']; · iexact Ht'
    isplitl [Hs2]; · iexact Hs2
    isplitl [Hr']; · iexists _; iexact Hr'
    isplitl [HsemG]; · iexact HsemG
    isplitl [HsemW]; · iexact HsemW
    isplitl [Ho]; · iexact Ho
    iexists _; isplitr
    swap; · iexact HO
    ipureintro; intro p hp
    rcases Finset.mem_insert.mp hp with hp | hp; · exact .inr (hp ▸ rfl)
    exact .inl hp
  iintro %_ HI
  unfold inv
  icases HI with ⟨-, Ht, Hs, ⟨%f, Hr⟩, HsemG, HsemW, Hob, %W', %hW', HO⟩
  sl_step
  isplitl [Hi' Ht Hob]
  · isplitl [Hi']; · iapply (Entails.of_eq (pts_iM (F := F) d L _)); iexact Hi'
    isplitl [Ht]; · iexact Ht
    iexact Hob
  isplitl [Hs Hr Hbufs]
  · isplitl [Hs]; · iexists _; iexact Hs
    isplitl [Hr]; · iexists _; iexact Hr
    iexact Hbufs
  isplitl [HsemG HsemL HsemW Hsems]
  · isplitl [HsemG]; · iexact HsemG
    isplitl [HsemL]; · iexact HsemL
    isplitl [HsemW]; · iexact HsemW
    iexact Hsems
  iexists W'; isplitr
  · ipureintro; exact hW'
  · iexact HO

end Tile

/-! ## The task's obligation, and the parts of the arrays -/

/-- The number of the tile on SparseCore `c`, subcore `i`. -/
def wid (c : Fin 2) (i : Fin 16) : Fin 32 := ⟨2 * i.val + c.val, by omega⟩

/-- The one call hands each tile what it is `given` and takes back what it `brought`; a SparseCore's share of the call is
    its tiles' parts. -/
def P : (K (F := F)).Pay (nD := nD) (Val := Elt F) (Name := ℕ) (U := UU) where
  st := fun q d c => match q with | 0 => bigSep Finset.univ fun i : Fin ((K (F := F)).nSub 0) => given tab ids out d (wid (Fin.cast nCore_zero c) (Fin.cast nSub_zero i))
  dn := fun q d c => match q with | 0 => bigSep Finset.univ fun i : Fin ((K (F := F)).nSub 0) => brought tab ids d (wid (Fin.cast nCore_zero c) (Fin.cast nSub_zero i))
  go := fun q d c i => match q with | 0 => given tab ids out d (wid (Fin.cast nCore_zero c) (Fin.cast nSub_zero i))
  td := fun q d c i => match q with | 0 => brought tab ids d (wid (Fin.cast nCore_zero c) (Fin.cast nSub_zero i))
  x := fun _ _ => iprop(emp)

instance P_storable : (P tab ids out).IsStorable where
  st q d c := match q with
    | 0 => (inferInstance : BI.Storable (upEmb : UEmb _ 𝕄)
      (bigSep Finset.univ fun i : Fin ((K (F := F)).nSub 0) => given tab ids out d (wid (Fin.cast nCore_zero c) (Fin.cast nSub_zero i))))
  dn q d c := match q with
    | 0 => (inferInstance : BI.Storable (upEmb : UEmb _ 𝕄)
      (bigSep Finset.univ fun i : Fin ((K (F := F)).nSub 0) => brought tab ids d (wid (Fin.cast nCore_zero c) (Fin.cast nSub_zero i))))
  go q d c i := match q with
    | 0 => given_storable tab ids out d (wid (Fin.cast nCore_zero c) (Fin.cast nSub_zero i))
  td q d c i := match q with
    | 0 => brought_storable tab ids d (wid (Fin.cast nCore_zero c) (Fin.cast nSub_zero i))

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather_body (coordsV c s)
          tV (Memref.isWhole_whole _) iV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hids : InRows ids) : (K (F := F)).TileObl (D (F := F)) 𝒱 (P tab ids out) v₀ 0 := by
  intro d c i O W hO _ _
  simp only [show (P tab ids out).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body tab ids out d (coordsV ⟨_, hci.1⟩ ⟨_, hci.2⟩) hF hids O W hO).trans (wp_mono frame _ _ fun _ => obl_post)

/-- A SparseCore's share of the call is its tiles' parts, both ways. -/
theorem vecSplit : (K (F := F)).VecSplit' (P tab ids out) 0 := by
  intro d c
  show (bigSep Finset.univ fun i : Fin ((K (F := F)).nSub 0) => given tab ids out d (wid (Fin.cast nCore_zero c) (Fin.cast nSub_zero i)))
    ⊢ |={Set.univ}=> iprop(
      (bigSep Finset.univ fun i : Fin ((K (F := F)).nSub 0) => given tab ids out d (wid (Fin.cast nCore_zero c) (Fin.cast nSub_zero i)))
      ∗ ((bigSep Finset.univ fun i : Fin ((K (F := F)).nSub 0) => brought tab ids d (wid (Fin.cast nCore_zero c) (Fin.cast nSub_zero i)))
          -∗ bigSep Finset.univ fun i : Fin ((K (F := F)).nSub 0) => brought tab ids d (wid (Fin.cast nCore_zero c) (Fin.cast nSub_zero i))))
  iintro H; imodintro
  isplitl [H]; · iexact H
  iintro H; iexact H

omit [FloatOps F] in
theorem iSet_eq (w : Fin 32) : iSet w = (ipart w).set := by
  show ((View.whole (main_arg1_scv : Ref sig .scVector)).slice (ipart w)).set = _
  rw [View.set_slice]; exact Finset.map_refl
omit [FloatOps F] in
theorem oSet_eq (b : Fin 960) : oSet b = (opart b).set := by
  show ((View.whole (main_v0_scv : Ref sig .scVector)).slice (opart b)).set = _
  rw [View.set_slice]; exact Finset.map_refl

omit [FloatOps F] in
/-- The index lists are the tiles' lists. -/
theorem lists_split (d : Dev nD) (f : Buf (Elt F) (iLoc d)) :
    (iLoc d ↦{fullShare} f : sProp 𝕄) = bigSep Finset.univ fun w : Fin 32 => iLoc d ↦[iSet w]{fullShare} f := by
  rw [← pointsTo_biUnion Finset.univ (ℓ := iLoc d) iSet fun i _ j _ h => by rw [iSet_eq, iSet_eq]; exact Rect.part_disjoint idiv h,
    (Finset.biUnion_congr rfl fun i _ => iSet_eq i).trans (Rect.biUnion_part idiv)]; try rfl

omit [FloatOps F] in
/-- The result is the tiles' blocks. -/
theorem blocks_split (d : Dev nD) (f : Buf (Elt F) (oLoc d)) :
    (oLoc d ↦{fullShare} f : sProp 𝕄) = bigSep Finset.univ fun w : Fin 32 => bigSep Finset.univ fun j : Fin 30 => oBlk d (blk w j) f := by
  have e : (oLoc d ↦{fullShare} f : sProp 𝕄) = bigSep Finset.univ fun b : Fin 960 => oLoc d ↦[oSet b]{fullShare} f := by
    rw [← pointsTo_biUnion Finset.univ (ℓ := oLoc d) oSet fun i _ j _ h => by rw [oSet_eq, oSet_eq]; exact Rect.part_disjoint odiv h,
      (Finset.biUnion_congr rfl fun i _ => oSet_eq i).trans (Rect.biUnion_part odiv)]; try rfl
  rw [e, bigSep_univ_equiv (finProdFinEquiv (m := 32) (n := 30)) fun b : Fin (32 * 30) => (oLoc d ↦[oSet b]{fullShare} f : sProp 𝕄), bigSep_univ_prod]
  refine bigSep_congr fun w _ => bigSep_congr fun j _ => ?_
  rw [show finProdFinEquiv (m := 32) (n := 30) (w, j) = blk w j from Fin.ext (by simp [finProdFinEquiv, blk]; omega)]

omit [FloatOps F] in
/-- The table is the tiles' shares. -/
theorem table_split (d : Dev nD) (f : Buf (Elt F) (tLoc d)) :
    (tLoc d ↦{fullShare} f : sProp 𝕄) = bigSep Finset.univ fun w : Fin 32 => tLoc d ↦{tq w} f :=
  pointsTo_piecesOf Finset.univ f (by decide) fullShare

omit [FloatOps F] in
/-- Over all the tiles is over the SparseCores and their subcores. -/
theorem tiles_split (Φ : Fin 32 → sProp 𝕄) :
    bigSep Finset.univ Φ = bigSep Finset.univ fun c : Fin ((K (F := F)).nCore 0) =>
      bigSep Finset.univ fun i : Fin ((K (F := F)).nSub 0) => Φ (wid (Fin.cast nCore_zero c) (Fin.cast nSub_zero i)) := by
  rw [bigSep_univ_equiv (finProdFinEquiv (m := 16) (n := 2)) fun b : Fin (16 * 2) => Φ b, bigSep_univ_prod, bigSep_univ_comm]
  refine bigSep_congr fun c _ => bigSep_congr fun i _ => ?_
  exact congrArg Φ (Fin.ext (by simp [finProdFinEquiv, wid]; omega))

omit [FloatOps F] in
/-- What the call takes, over the SparseCores, is the three arrays. -/
theorem call_takes (d : Dev nD) :
    (bigSep Finset.univ fun c : Fin ((K (F := F)).nCore 0) => (P tab ids out).st 0 d c)
      = (iprop((iLoc d ↦{fullShare} ids d) ∗ (tLoc d ↦{fullShare} tab d) ∗ oLoc d ↦{fullShare} out d) : sProp 𝕄) := by
  show (bigSep Finset.univ fun c : Fin ((K (F := F)).nCore 0) => bigSep Finset.univ fun i : Fin ((K (F := F)).nSub 0) =>
    given tab ids out d (wid (Fin.cast nCore_zero c) (Fin.cast nSub_zero i))) = _
  rw [← tiles_split fun w => given tab ids out d w]
  unfold given
  rw [bigSep_sep', bigSep_sep', ← table_split, ← lists_split, ← blocks_split]

omit [FloatOps F] in
/-- What it brings back: the lists and the table as they were, the result at the gathered rows. -/
theorem call_brings (d : Dev nD) :
    (bigSep Finset.univ fun c : Fin ((K (F := F)).nCore 0) => (P tab ids out).dn 0 d c)
      = (iprop((iLoc d ↦{fullShare} ids d) ∗ (tLoc d ↦{fullShare} tab d) ∗ oLoc d ↦{fullShare} (rowsOf (tab d) (ids d) : Buf (Elt F) (oLoc d))) : sProp 𝕄) := by
  show (bigSep Finset.univ fun c : Fin ((K (F := F)).nCore 0) => bigSep Finset.univ fun i : Fin ((K (F := F)).nSub 0) =>
    brought tab ids d (wid (Fin.cast nCore_zero c) (Fin.cast nSub_zero i))) = _
  rw [← tiles_split fun w => brought tab ids d w]
  unfold brought
  rw [bigSep_sep', bigSep_sep', ← table_split, ← lists_split, ← blocks_split]

end Cert.Proof.GatherIdealTile

end
-- ==== Proof.GatherIdealRun.lean ====
/-
  The gather's run: from any memory whose index words all name rows of the table, every execution of the program ends
  with the table and the lists as they were, the result at the gathered rows (`rowsOf`) and every counter at zero.
-/
module

public import proofs.«01_k».proof.Proof.GatherIdealTile
public import proofs.«01_k».proof.Proof.Gen.Pre_idx_in_rows

@[expose] public section

noncomputable section

namespace Cert.Proof.GatherIdealRun

open Cert.GatherIdeal Cert.GatherIdeal.Gen Cert.Proof.GatherIdealTile

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-- The launch contents of the three arrays. -/
abbrev tab₀ (d : Dev nD) : Buf (Elt F) (tLoc d) := m (tLoc d)
abbrev ids₀ (d : Dev nD) : Buf (Elt F) (iLoc d) := m (iLoc d)
abbrev out₀ (d : Dev nD) : Buf (Elt F) (oLoc d) := m (oLoc d)

local notation "PP" => Cert.Proof.GatherIdealTile.P (tab₀ m) (ids₀ m) (out₀ m)

def u₀ : UU := (initOf (K (F := F)).hsCells (K (F := F)).hsToks, 1)

theorem start : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (PP).x q thr) := by
  have e₁ : (bigSep Finset.univ fun _ : Dev nD => iprop(emp)) = (iprop(emp) : sProp 𝕄) := bigSep_emp_const _
  have e₂ : (bigSep Finset.univ fun thr : Thread nD τ => bigSep Finset.univ fun q : Fin 1 => (PP).x q thr) = (iprop(emp) : sProp 𝕄) :=
    (bigSep_congr fun _ _ => bigSep_univ_of_subsingleton (0 : Fin 1)).trans (bigSep_emp_const _)
  rw [e₁, e₂]
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

omit [FloatOps F] in
theorem arrays_eq (d : Dev nD) (W : (b : Ref sig .tc) → Buf (Elt F) ((d.tc : Thread nD τ).loc b)) :
    (unscopedBufs d W : sProp 𝕄) = iprop((tLoc d ↦{fullShare} W main_arg0) ∗ (iLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What @main ends with. -/
abbrev fin (d : Dev nD) : sProp 𝕄 :=
  iprop((iLoc d ↦{fullShare} ids₀ m d) ∗ (tLoc d ↦{fullShare} tab₀ m d) ∗ oLoc d ↦{fullShare} (rowsOf (tab₀ m d) (ids₀ m d) : Buf (Elt F) (oLoc d)))

theorem main_wp (κ : GSem nD τ sig → ℕ) (d : Dev nD) :
    iprop((K (F := F)).ctx EH (PP) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ fin m d ∗ (K (F := F)).tcEnd d) := by
  unfold SparseCore.Cfg.tcRes SparseCore.Cfg.tcEnd
  rw [arrays_eq]
  simp only [main, wp_bind, wp_pure]
  iintro ⟨#Hctx, Hst, ⟨Hb, ⟨Ht, Hi, Ho⟩, Hts, -⟩, -⟩
  iapply ((K (F := F)).wp_run (D (F := F)) 𝒱 (EH := EH) (P := PP) κ d 0) $$ [Hst Hi Ht Ho Hb Hts]
  isplitr; · iexact Hctx
  isplitl [Hst]; · iexact Hst
  isplitl [Hi Ht Ho]
  · rw [call_takes]
    isplitl [Hi]; · iexact Hi
    isplitl [Ht]; · iexact Ht
    iexact Ho
  iintro ⟨Hst, Hdn⟩
  ihave Hdn' := (Entails.of_eq (call_brings (tab₀ m) (ids₀ m) (out₀ m) d)) $$ Hdn
  imodintro
  isplitl [Hst]; · iexact Hst
  isplitr [Hb Hts]
  · iexact Hdn'
  isplitl [Hb] <;> iassumption

/-- The contents @main ends with, read off the memory. -/
def ends (d : Dev nD) (s' : Phys nD τ sig (Elt F)) : Prop :=
  s'.mem.mem (oLoc d) = rowsOf (tab₀ m d) (ids₀ m d) ∧ s'.mem.mem (tLoc d) = m (tLoc d) ∧ s'.mem.mem (iLoc d) = m (iLoc d)

set_option maxRecDepth 16384 in
theorem fin_ends (d : Dev nD) (s' : Phys nD τ sig (Elt F)) : iprop(fin m d ∗ SI s') ⊢ (⌜ends m d s'⌝ : sProp 𝕄) := by
  iintro ⟨⟨Hi, Ht, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := oLoc d) (I := Finset.univ) (q := fullShare) (f := (rowsOf (tab₀ m d) (ids₀ m d) : Buf (Elt F) (oLoc d)))) $$ [HSI Ho]
  · isplitl [HSI] <;> iassumption
  icases H with %h3
  ipureintro
  exact ⟨funext fun i => h3 i (Finset.mem_univ i), funext fun i => h2 i (Finset.mem_univ i), funext fun i => h1 i (Finset.mem_univ i)⟩

theorem run [∀ e, Nonempty (Elt F e)] (hids : InRows (ids₀ m)) :
    θ_run (Cert.GatherIdeal.defs (F := F)) (Cert.GatherIdeal.threads (F := F)) ⟨m, fun _ => 0, ρ⟩ fun r =>
      (∀ d : Dev nD, r.2.mem (oLoc d) = rowsOf (m (tLoc d)) (m (iLoc d)) ∧ r.2.mem (tLoc d) = m (tLoc d) ∧ r.2.mem (iLoc d) = m (iLoc d))
        ∧ r.2.sem = fun _ => 0 :=
  SparseCore.Cfg.θ_run_sc_quiescent (K := K (F := F)) (D := D (F := F)) (𝒱 := 𝒱) (EH := EH) (P := PP) (A := ∅) facts v₀
    (fun q hq => match q with | 0 => nomatch hq)
    (fun q _ => match q with | 0 => tileObl (tab₀ m) (ids₀ m) (out₀ m) facts hids)
    (fun q _ => match q with | 0 => SparseCore.Cfg.VecSplit.of_plain (vecSplit (tab₀ m) (ids₀ m) (out₀ m)))
    m ρ main (fun _ => iprop(emp)) (fin m) (u₀ (F := F)) (sep_elim_left.trans (start m)) (main_wp m ρ) (ends m) (fin_ends m) _ (fun _ h hz => ⟨h, hz⟩)

/-- The precondition, elementwise `(0 ≤ ids) & (ids < 4096)` as signed words, says that every word names a row. -/
theorem word_in {v : BitVec 32} (e : IntOp.andi (IntOp.cmpi .sge v 0#32) (IntOp.cmpi .slt v 4096#32) = 1#1) : v.toNat < 4096 := by
  have hand (p q : Bool) : IntOp.andi (BitVec.ofBool p) (BitVec.ofBool q) = BitVec.ofBool (p && q) := by
    cases p <;> cases q <;> decide
  have hone (p : Bool) : (BitVec.ofBool p = 1#1) ↔ p = true := by cases p <;> decide
  simp only [IntOp.cmpi, hand, hone, Bool.and_eq_true, BitVec.sle_eq_decide, BitVec.slt_eq_decide,
    decide_eq_true_eq, BitVec.toInt_eq_toNat_cond, BitVec.toNat_ofNat, Nat.reducePow, Nat.reduceMod] at e
  omega

theorem inRows_of_pre (h : ∀ d : Dev nD, Cert.Pre_idx_in_rows.fn (F := F) (m (tLoc d)) (m (iLoc d)) = fun _ => 1#1) : InRows (ids₀ m) := by
  intro d j
  have e := congrFun (h d) j
  simp only [Pre_idx_in_rows.fn, andi, cmpi, broadcastInDim, constantI] at e
  exact word_in e

end Cert.Proof.GatherIdealRun

end
-- ==== Proof.GatherValue.lean ====
/-
  The value of the gather's reference, `table[ids]` over the flattened lists: where every word names a row of the table,
  row `r` is the row of the table that `r`'s word names — the gathered rows (`rowsOf`). No word is negative, so none is
  wrapped; every one passes the range check, so no row is filled; and the gather's own clamp moves none.
-/
module

public import proofs.«01_k».proof.Proof.GatherIdealTile
public import proofs.«01_k».proof.Proof.Gen.GatherReferenceIdeal.Run
public import Idealize.ShloMosaic.Lib.ReduceAll
public import Idealize.ShloMosaic.Lib.Routing.Ops

@[expose] public section

noncomputable section

namespace Cert.Proof.GatherValue

open Cert.GatherReferenceIdeal Cert.GatherReferenceIdeal.Gen Cert.Proof.GatherIdealTile
open Idealize.ShloMosaic Idealize.ShloMosaic.ValueIdx

variable {F : FTy → Type} [FloatOps F] (tab : FVec F S4096x128 .f32) (ids : IVec S32x30x128 32)

/-- The flattened lists, a negative word wrapped by the table's height. -/
abbrev wrapped : IVec S122880 32 :=
  select (cmpi .slt (shapeCast _ ids shapeCasts_S32x30x128_S122880) (broadcastInDim S122880 ![] bcast_S_S122880 (constantI S_ 32 0#32))) (addi (shapeCast _ ids shapeCasts_S32x30x128_S122880) (broadcastInDim S122880 ![] bcast_S_S122880 (constantI S_ 32 4096#32))) (shapeCast _ ids shapeCasts_S32x30x128_S122880)

/-- Flattening finds row `r`'s word at its place in the lists. -/
theorem flat_apply (r : Fin 122880) : shapeCast S122880 ids shapeCasts_S32x30x128_S122880 (ix1 r) = ids (place r) := by
  show ids (Shape.reshapeEquiv _ (ix1 r)) = _
  refine congrArg ids (Shape.reshapeEquiv_eq_of_rowMajor _ ?_)
  rw [Shape.rowMajor_val_three, Shape.rowMajor_val_one]
  show (r.val / 3840 * 30 + r.val % 3840 / 128) * 128 + r.val % 128 = r.val
  omega

variable (hids : ∀ x, (ids x).toNat < 4096)

include hids in
theorem wrapped_apply (r : Fin 122880) : wrapped ids (ix1 r) = ids (place r) := by
  have h := flat_apply ids r
  have hlt : IntOp.cmpi .slt (ids (place r)) 0#32 = 0#1 := by
    have := hids (place r)
    simp only [IntOp.cmpi, BitVec.slt_eq_decide, BitVec.toInt_eq_toNat_cond, BitVec.toNat_ofNat]
    rw [decide_eq_false (by omega)]; rfl
  show Scalar.select (IntOp.cmpi .slt (shapeCast S122880 ids shapeCasts_S32x30x128_S122880 (ix1 r)) 0#32) _ (shapeCast S122880 ids shapeCasts_S32x30x128_S122880 (ix1 r)) = _
  rw [h, hlt]; rfl

theorem in_range {v : BitVec 32} (h : v.toNat < 4096) : IntOp.andi (IntOp.cmpi .sge v 0#32) (IntOp.cmpi .sle v 4095#32) = 1#1 := by
  simp only [IntOp.cmpi, BitVec.sle_eq_decide, BitVec.toInt_eq_toNat_cond, BitVec.toNat_ofNat]
  rw [decide_eq_true (by omega), decide_eq_true (by omega)]; rfl

include hids in
/-- The reference's term is the gathered rows. -/
theorem reference_eq :
    select (broadcastInDim S122880x128 ![0] bcast_S122880_S122880x128_0 (Host.reduce IntOp.andi (andi (cmpi .sge (broadcastInDim S122880x1 ![0] bcast_S122880_S122880x1_0 (wrapped ids)) (broadcastInDim S122880x1 ![] bcast_S_S122880x1 (constantI S_ 32 0#32))) (cmpi .sle (broadcastInDim S122880x1 ![0] bcast_S122880_S122880x1_0 (wrapped ids)) (broadcastInDim S122880x1 ![0, 1] bcast_S1x1_S122880x1_0_1 (broadcastInDim S1x1 ![1] bcast_S1_S1x1_1 (constantI S1 32 4095#32))))) (constantI S_ 1 1#1) reducesTo_S122880x1_S122880_d1 h_S_)) (Host.gather gather_S4096x128_S122880x1_S122880x128_1_0_n_n_0_1_1128 tab (broadcastInDim S122880x1 ![0] bcast_S122880_S122880x1_0 (wrapped ids))) (broadcastInDim S122880x128 ![] bcast_S_S122880x128 (constant S_ .f32 0x7FC00000#32)) = rowsOf tab ids := by
  funext x
  obtain ⟨r, l, rfl⟩ : ∃ r l, x = ix2 r l := ⟨x 0, x 1, eq_ix2 x⟩
  have hall : ∀ i, andi (cmpi .sge (broadcastInDim S122880x1 ![0] bcast_S122880_S122880x1_0 (wrapped ids)) (broadcastInDim S122880x1 ![] bcast_S_S122880x1 (constantI S_ 32 0#32)))
      (cmpi .sle (broadcastInDim S122880x1 ![0] bcast_S122880_S122880x1_0 (wrapped ids)) (broadcastInDim S122880x1 ![0, 1] bcast_S1x1_S122880x1_0_1 (broadcastInDim S1x1 ![1] bcast_S1_S1x1_1 (constantI S1 32 4095#32)))) i = 1#1 := by
    intro i
    have e : broadcastInDim S122880x1 ![0] bcast_S122880_S122880x1_0 (wrapped ids) i = ids (place (i 0)) := by
      refine Eq.trans ?_ (wrapped_apply ids hids (i 0))
      exact congrArg (wrapped ids) (eq_ix1 _)
    show IntOp.andi (IntOp.cmpi .sge (broadcastInDim S122880x1 ![0] bcast_S122880_S122880x1_0 (wrapped ids) i) 0#32)
      (IntOp.cmpi .sle (broadcastInDim S122880x1 ![0] bcast_S122880_S122880x1_0 (wrapped ids) i) 4095#32) = 1#1
    rw [e]; exact in_range (hids _)
  show Scalar.select (Host.reduce IntOp.andi _ _ reducesTo_S122880x1_S122880_d1 h_S_ _) (Host.gather _ tab _ (ix2 r l)) _ = _
  rw [Host.reduce_andi_one _ _ _ _ _ rfl hall, select_one]
  refine (Routing.gather_row gather_S4096x128_S122880x1_S122880x128_1_0_n_n_0_1_1128 rfl rfl rfl rfl rfl tab _ r l (rowNo (ids (place r))) ?_ (by norm_num)).trans ?_
  · refine Eq.trans (congrArg (wrapped ids) (eq_ix1 _)) ((wrapped_apply ids hids r).trans ?_)
    rw [rowNo_val (hids _), BitVec.ofNat_toNat, BitVec.setWidth_eq]
  · exact congrArg tab (rc_ext rfl rfl)

end Cert.Proof.GatherValue

end
-- ==== Proof.KernelBase.lean ====
/-
  The setting of the whole kernel's run: the resource algebra (the SparseCore handshakes' rounds, the two pipelines'
  rounds and the counters of the tiles' copies), the embeddings of its components, and what the two TensorCore calls
  need of them.
-/
module

public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Skeleton
public import Idealize.ShloMosaic.Lib.SparseCore
public import Idealize.ShloMosaic.Lib.Pipeline.FrameBody
public import Idealize.ShloMosaic.Lib.Pipeline.Value
public import Idealize.ShloMosaic.Lib.Pipeline.RegionArrays
public import Idealize.ShloMosaic.Lib.Tactic

@[expose] public section

noncomputable section

namespace Cert.Proof.KernelBase

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds of the SparseCore handshakes' cells, and of the pipelines' staging cells. -/
abbrev UH : Type := URounds (GSem nD τ sig) ℕ
abbrev UPp : Type := URounds (GSem nD τ sig) Unit
abbrev UU : Type := UH × (UPp × Counters)

local notation "𝕄" => MT nD τ sig (HIx 1) (Elt F) ℕ UU ℕ

/-- Where the handshakes' rounds and the pipelines' rounds live. -/
abbrev EH : Emb UH (MT nD τ sig (HIx 1) (Elt F) ℕ UU ℕ) := embL
def EP : Emb UPp (MT nD τ sig (HIx 1) (Elt F) ℕ UU ℕ) :=
  ((Emb.inl : Emb UPp (UPp × Counters)).trans (Emb.inr : Emb (UPp × Counters) UU)).trans
    (uEmb (nD := nD) (τ := τ) (sig := sig) (Ix := HIx 1) (Val := Elt F) (Name := ℕ) (U := UU) (Lvl := ℕ)).toEmb
instance EP_landsIn : (EP : Emb UPp 𝕄).LandsIn (upEmb : UEmb _ 𝕄) := by unfold EP; infer_instance

abbrev 𝒱₀ : Variants := Variants.none

theorem zeros₂ : (![0, 0] : Fin 2 → ℕ) = fun _ => 0 := by
  funext a; fin_cases a <;> rfl

/-- A whole-buffer store reads back as what it stored; a whole-buffer load is the buffer's reading. -/
theorem read_stored {Val : EltTy → Type} [∀ e, Nonempty (Val e)] {κ : Kind} {sp : Space} {S : Shape} {e : EltTy} (v : View sig κ sp S e)
    (f : v.ty.Contents Val) {off : Fin S.rank → ℕ} (h : off = fun _ => 0) (inb : ∀ a, off a + S.size a ≤ S.size a) (w : S.Idx → Val e) :
    v.read Val (v.writes Val f [⟨Rect.unit off S.size inb, w⟩]) = w :=
  (View.read_writes_eq_canon v f _ fun y => ⟨_, List.mem_singleton_self _, View.mem_set_unit_zero h inb y⟩).trans (View.canon_unit_zero h inb w)
theorem loaded {Val : EltTy → Type} {κ : Kind} {sp : Space} {S : Shape} {e : EltTy} (v : View sig κ sp S e)
    (f : v.ty.Contents Val) {off : Fin S.rank → ℕ} (h : off = fun _ => 0) (inb : ∀ a, off a + S.size a ≤ S.size a) :
    View.readAt Val v (Rect.unit off S.size inb).toLoadRect f = v.read Val f :=
  View.ld_unit_zero h inb (v.read Val f)

end Cert.Proof.KernelBase

end
-- ==== Proof.KernelSteps.lean ====
/-
  The first call's thirty-one selection steps, each the lowest column holding its row's least entry, which the step then
  raises to infinity; and the body's payloads as these steps.
-/
module

public import proofs.«01_k».proof.Proof.KernelBase

@[expose] public section

noncomputable section

namespace Cert.Proof.KernelSteps

open Cert.KernelIdeal Cert.KernelIdeal.Gen
open Idealize.ShloMosaic

variable {F : FTy → Type} [FloatOps F]

/-- The column numbers, the number past the last column, and the raised entry. -/
def it : IVec S256x256 32 := iota .tc S256x256 32 [1] iota_S256x256_d1_w32
def c256 : IVec S256x256 32 := broadcast S256x256 256#32
def infs : FVec F S256x256 .f32 := broadcast S256x256 (Scalar.ofBits .f32 0x7F800000#32 : F .f32)

/-- Each row's least entry; where a row attains it; the lowest such column; where the columns are a given one. -/
def low (r : FVec F S256x256 .f32) : FVec F S256x1 .f32 :=
  shapeCast S256x1 (multiReduction .minimumf [1] S256 r 0x7F800000#32 reduces_S256x256_S256 (.inl rfl) rfl) shapeCasts_S256_S256x1
def msk (r : FVec F S256x256 .f32) : IVec S256x256 1 := cmpf .oeq r (broadcastTo S256x256 (low r) broadcasts_S256x1_S256x256)
def argm (r : FVec F S256x256 .f32) : IVec S256x1 32 :=
  shapeCast S256x1 (multiReductionI .minsi [1] S256 (select (msk r) it c256) 2147483647#32 reduces_S256x256_S256 rfl) shapeCasts_S256_S256x1
def hit (a : IVec S256x1 32) : IVec S256x256 1 := cmpi .eq it (broadcastTo S256x256 a broadcasts_S256x1_S256x256)

/-- The block's squared row norms, and its pairwise squared distances. -/
def sq (X : Vec F S256x64 .f32) : FVec F S256x1 .f32 :=
  shapeCast S256x1 (multiReduction .add [1] S256 (mulf X X) 0x00000000#32 reduces_S256x64_S256 (.inl rfl) rfl) shapeCasts_S256_S256x1
def dist (X : Vec F S256x64 .f32) : FVec F S256x256 .f32 :=
  subf
    (addf (broadcastTo S256x256 (sq X) broadcasts_S256x1_S256x256)
      (matmul dot_S256x1_S256x1_S256x256_1_1_0_0_n_n (some .fp32) (broadcast S256x1 (Scalar.ofBits .f32 0x3F800000#32 : F .f32)) (sq X)
        (constant S256x256 .f32 0x00000000#32)))
    (mulf (broadcast S256x256 (Scalar.ofBits .f32 0x40000000#32 : F .f32))
      (matmul dot_S256x64_S256x64_S256x256_1_1_0_0_n_n none X X (constant S256x256 .f32 0x00000000#32)))

/-- The distances after `k` steps, and the columns step `k` takes. -/
def run (X : Vec F S256x64 .f32) : ℕ → FVec F S256x256 .f32
  | 0 => dist X
  | k + 1 => select (hit (argm (run X k))) infs (run X k)
def am (X : Vec F S256x64 .f32) (k : ℕ) : IVec S256x1 32 := argm (run X k)

/-- What the body stores as the block's neighbours: the columns of steps 1 to 30, two columns of zeros, and the block's
    first row added. -/
def nbrs (b : BitVec 32) (X : Vec F S256x64 .f32) : IVec S256x32 32 :=
  addi (concatenate S256x32 1 [⟨S256x1, am X 1⟩, ⟨S256x1, am X 2⟩, ⟨S256x1, am X 3⟩, ⟨S256x1, am X 4⟩, ⟨S256x1, am X 5⟩, ⟨S256x1, am X 6⟩, ⟨S256x1, am X 7⟩, ⟨S256x1, am X 8⟩, ⟨S256x1, am X 9⟩, ⟨S256x1, am X 10⟩, ⟨S256x1, am X 11⟩, ⟨S256x1, am X 12⟩, ⟨S256x1, am X 13⟩, ⟨S256x1, am X 14⟩, ⟨S256x1, am X 15⟩, ⟨S256x1, am X 16⟩, ⟨S256x1, am X 17⟩, ⟨S256x1, am X 18⟩, ⟨S256x1, am X 19⟩, ⟨S256x1, am X 20⟩, ⟨S256x1, am X 21⟩, ⟨S256x1, am X 22⟩, ⟨S256x1, am X 23⟩, ⟨S256x1, am X 24⟩, ⟨S256x1, am X 25⟩, ⟨S256x1, am X 26⟩, ⟨S256x1, am X 27⟩, ⟨S256x1, am X 28⟩, ⟨S256x1, am X 29⟩, ⟨S256x1, am X 30⟩, ⟨S256x2, broadcast S256x2 0#32⟩] concatenates_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x2_S256x32_d1)
    (broadcast S256x32 (Scalar.muli b 256#32))

theorem p2 (X : Vec F S256x64 .f32) : k0_pay2 X = run X 1 := rfl
theorem p3 (X : Vec F S256x64 .f32) : k0_pay3 X = am X 1 := by simp only [k0_pay3, p2]; rfl
theorem p4 (X : Vec F S256x64 .f32) : k0_pay4 X = run X 2 := by simp only [k0_pay4, p2, p3]; rfl
theorem p5 (X : Vec F S256x64 .f32) : k0_pay5 X = msk (run X 2) := by simp only [k0_pay5, p4]; rfl
theorem p6 : k0_pay6 = c256 := rfl
theorem p7 (X : Vec F S256x64 .f32) : k0_pay7 it (msk (run X 2)) c256 = am X 2 := rfl
theorem p8 (X : Vec F S256x64 .f32) : k0_pay8 it (run X 2) (msk (run X 2)) c256 = run X 3 := by simp only [k0_pay8, p7]; rfl
theorem p9 (X : Vec F S256x64 .f32) : k0_pay9 it (run X 2) (msk (run X 2)) c256 = am X 3 := by simp only [k0_pay9, p8]; rfl
theorem p10 (X : Vec F S256x64 .f32) : k0_pay10 it (run X 2) (msk (run X 2)) c256 = run X 4 := by simp only [k0_pay10, p8, p9]; rfl
theorem p11 (X : Vec F S256x64 .f32) : k0_pay11 it (run X 2) (msk (run X 2)) c256 = am X 4 := by simp only [k0_pay11, p10]; rfl
theorem p12 (X : Vec F S256x64 .f32) : k0_pay12 it (run X 2) (msk (run X 2)) c256 = run X 5 := by simp only [k0_pay12, p10, p11]; rfl
theorem p13 (X : Vec F S256x64 .f32) : k0_pay13 it (run X 2) (msk (run X 2)) c256 = am X 5 := by simp only [k0_pay13, p12]; rfl
theorem p14 (X : Vec F S256x64 .f32) : k0_pay14 it (run X 2) (msk (run X 2)) c256 = run X 6 := by simp only [k0_pay14, p12, p13]; rfl
theorem p15 (X : Vec F S256x64 .f32) : k0_pay15 it (run X 2) (msk (run X 2)) c256 = low (run X 6) := by simp only [k0_pay15, p14]; rfl
theorem p16 (X : Vec F S256x64 .f32) : k0_pay16 it (run X 6) (low (run X 6)) = am X 6 := rfl
theorem p17 (X : Vec F S256x64 .f32) : k0_pay17 it (run X 6) (low (run X 6)) = run X 7 := by simp only [k0_pay17, p16]; rfl
theorem p18 (X : Vec F S256x64 .f32) : k0_pay18 it (run X 6) (low (run X 6)) = am X 7 := by simp only [k0_pay18, p17]; rfl
theorem p19 (X : Vec F S256x64 .f32) : k0_pay19 it (run X 6) (low (run X 6)) = run X 8 := by simp only [k0_pay19, p17, p18]; rfl
theorem p20 (X : Vec F S256x64 .f32) : k0_pay20 it (run X 6) (low (run X 6)) = am X 8 := by simp only [k0_pay20, p19]; rfl
theorem p21 (X : Vec F S256x64 .f32) : k0_pay21 it (run X 6) (low (run X 6)) = run X 9 := by simp only [k0_pay21, p19, p20]; rfl
theorem p22 (X : Vec F S256x64 .f32) : k0_pay22 it (run X 6) (low (run X 6)) = am X 9 := by simp only [k0_pay22, p21]; rfl
theorem p23 (X : Vec F S256x64 .f32) : k0_pay23 it (run X 6) (low (run X 6)) = hit (am X 9) := by simp only [k0_pay23, p22]; rfl
theorem p24 : k0_pay24 (F := F) = infs := rfl
theorem p25 (X : Vec F S256x64 .f32) : k0_pay25 (run X 9) (hit (am X 9)) infs = run X 10 := rfl
theorem p26 (X : Vec F S256x64 .f32) : k0_pay26 it (run X 9) (hit (am X 9)) infs = am X 10 := by simp only [k0_pay26, p25]; rfl
theorem p27 (X : Vec F S256x64 .f32) : k0_pay27 it (run X 9) (hit (am X 9)) infs = run X 11 := by simp only [k0_pay27, p25, p26]; rfl
theorem p28 (X : Vec F S256x64 .f32) : k0_pay28 it (run X 9) (hit (am X 9)) infs = am X 11 := by simp only [k0_pay28, p27]; rfl
theorem p29 (X : Vec F S256x64 .f32) : k0_pay29 it (run X 9) (hit (am X 9)) infs = run X 12 := by simp only [k0_pay29, p27, p28]; rfl
theorem p30 (X : Vec F S256x64 .f32) : k0_pay30 it (run X 9) (hit (am X 9)) infs = am X 12 := by simp only [k0_pay30, p29]; rfl
theorem p31 (X : Vec F S256x64 .f32) : k0_pay31 it (run X 9) (hit (am X 9)) infs = run X 13 := by simp only [k0_pay31, p29, p30]; rfl
theorem p32 (X : Vec F S256x64 .f32) : k0_pay32 it (run X 9) (hit (am X 9)) infs = am X 13 := by simp only [k0_pay32, p31]; rfl
theorem p33 (X : Vec F S256x64 .f32) : k0_pay33 it (run X 13) (am X 13) = run X 14 := rfl
theorem p34 (X : Vec F S256x64 .f32) : k0_pay34 it (run X 13) (am X 13) = am X 14 := by simp only [k0_pay34, p33]; rfl
theorem p35 (X : Vec F S256x64 .f32) : k0_pay35 it (run X 13) (am X 13) = run X 15 := by simp only [k0_pay35, p33, p34]; rfl
theorem p36 (X : Vec F S256x64 .f32) : k0_pay36 it (run X 13) (am X 13) = am X 15 := by simp only [k0_pay36, p35]; rfl
theorem p37 (X : Vec F S256x64 .f32) : k0_pay37 it (run X 13) (am X 13) = run X 16 := by simp only [k0_pay37, p35, p36]; rfl
theorem p38 (X : Vec F S256x64 .f32) : k0_pay38 it (run X 13) (am X 13) = am X 16 := by simp only [k0_pay38, p37]; rfl
theorem p39 (X : Vec F S256x64 .f32) : k0_pay39 it (run X 13) (am X 13) = run X 17 := by simp only [k0_pay39, p37, p38]; rfl
theorem p40 (X : Vec F S256x64 .f32) : k0_pay40 it (run X 13) (am X 13) = msk (run X 17) := by simp only [k0_pay40, p39]; rfl
theorem p41 : k0_pay41 = c256 := rfl
theorem p42 (X : Vec F S256x64 .f32) : k0_pay42 it (msk (run X 17)) c256 = am X 17 := rfl
theorem p43 (X : Vec F S256x64 .f32) : k0_pay43 it (run X 17) (msk (run X 17)) c256 = run X 18 := by simp only [k0_pay43, p42]; rfl
theorem p44 (X : Vec F S256x64 .f32) : k0_pay44 it (run X 17) (msk (run X 17)) c256 = am X 18 := by simp only [k0_pay44, p43]; rfl
theorem p45 (X : Vec F S256x64 .f32) : k0_pay45 it (run X 17) (msk (run X 17)) c256 = run X 19 := by simp only [k0_pay45, p43, p44]; rfl
theorem p46 (X : Vec F S256x64 .f32) : k0_pay46 it (run X 17) (msk (run X 17)) c256 = am X 19 := by simp only [k0_pay46, p45]; rfl
theorem p47 (X : Vec F S256x64 .f32) : k0_pay47 it (run X 17) (msk (run X 17)) c256 = run X 20 := by simp only [k0_pay47, p45, p46]; rfl
theorem p48 (X : Vec F S256x64 .f32) : k0_pay48 it (run X 17) (msk (run X 17)) c256 = am X 20 := by simp only [k0_pay48, p47]; rfl
theorem p49 (X : Vec F S256x64 .f32) : k0_pay49 it (run X 17) (msk (run X 17)) c256 = run X 21 := by simp only [k0_pay49, p47, p48]; rfl
theorem p50 (X : Vec F S256x64 .f32) : k0_pay50 it (run X 17) (msk (run X 17)) c256 = low (run X 21) := by simp only [k0_pay50, p49]; rfl
theorem p51 (X : Vec F S256x64 .f32) : k0_pay51 it (run X 21) (low (run X 21)) = am X 21 := rfl
theorem p52 (X : Vec F S256x64 .f32) : k0_pay52 it (run X 21) (low (run X 21)) = run X 22 := by simp only [k0_pay52, p51]; rfl
theorem p53 (X : Vec F S256x64 .f32) : k0_pay53 it (run X 21) (low (run X 21)) = am X 22 := by simp only [k0_pay53, p52]; rfl
theorem p54 (X : Vec F S256x64 .f32) : k0_pay54 it (run X 21) (low (run X 21)) = run X 23 := by simp only [k0_pay54, p52, p53]; rfl
theorem p55 (X : Vec F S256x64 .f32) : k0_pay55 it (run X 21) (low (run X 21)) = am X 23 := by simp only [k0_pay55, p54]; rfl
theorem p56 (X : Vec F S256x64 .f32) : k0_pay56 it (run X 21) (low (run X 21)) = run X 24 := by simp only [k0_pay56, p54, p55]; rfl
theorem p57 (X : Vec F S256x64 .f32) : k0_pay57 it (run X 21) (low (run X 21)) = am X 24 := by simp only [k0_pay57, p56]; rfl
theorem p58 (X : Vec F S256x64 .f32) : k0_pay58 it (run X 21) (low (run X 21)) = hit (am X 24) := by simp only [k0_pay58, p57]; rfl
theorem p59 : k0_pay59 (F := F) = infs := rfl
theorem p60 (X : Vec F S256x64 .f32) : k0_pay60 (run X 24) (hit (am X 24)) infs = run X 25 := rfl
theorem p61 (X : Vec F S256x64 .f32) : k0_pay61 it (run X 24) (hit (am X 24)) infs = am X 25 := by simp only [k0_pay61, p60]; rfl
theorem p62 (X : Vec F S256x64 .f32) : k0_pay62 it (run X 24) (hit (am X 24)) infs = run X 26 := by simp only [k0_pay62, p60, p61]; rfl
theorem p63 (X : Vec F S256x64 .f32) : k0_pay63 it (run X 24) (hit (am X 24)) infs = am X 26 := by simp only [k0_pay63, p62]; rfl
theorem p64 (X : Vec F S256x64 .f32) : k0_pay64 it (run X 24) (hit (am X 24)) infs = run X 27 := by simp only [k0_pay64, p62, p63]; rfl
theorem p65 (X : Vec F S256x64 .f32) : k0_pay65 it (run X 24) (hit (am X 24)) infs = am X 27 := by simp only [k0_pay65, p64]; rfl
theorem p66 (X : Vec F S256x64 .f32) : k0_pay66 it (run X 24) (hit (am X 24)) infs = run X 28 := by simp only [k0_pay66, p64, p65]; rfl
theorem p67 (X : Vec F S256x64 .f32) : k0_pay67 it (run X 24) (hit (am X 24)) infs = am X 28 := by simp only [k0_pay67, p66]; rfl
theorem p68 (b : BitVec 32) (X : Vec F S256x64 .f32) : k0_pay68 b it (am X 1) (am X 2) (am X 3) (am X 4) (am X 5) (am X 6) (am X 7) (am X 8) (am X 9) (am X 10) (am X 11) (am X 12) (am X 13) (am X 14) (am X 15) (am X 16) (am X 17) (am X 18) (am X 19) (am X 20) (am X 21) (am X 22) (am X 23) (am X 24) (am X 25) (am X 26) (am X 27) (run X 28) (am X 28) = nbrs b X := rfl

end Cert.Proof.KernelSteps

end
-- ==== Proof.Picks.lean ====
/-
  Taking the lowest column of least entry again and again: each taken entry is raised to infinity, so as long as the
  entries are finite the columns taken are distinct and come in the order of (entry, column). And a stable sort by a key
  alone is the sort by (key, position), whose first places such a sequence of columns fills.
-/
module

public import Idealize.ShloMosaic.Lib.SortPrefix
public import Mathlib.Data.EReal.Basic

@[expose] public section

noncomputable section

namespace Cert.Proof.Picks

open Idealize.ShloMosaic

/-- `r k` is what is left of the entries `f` after `k` steps, `a k` the column step `k` takes. -/
structure Picks {n : ℕ} (f : Fin n → EReal) (r : ℕ → Fin n → EReal) (a : ℕ → Fin n) : Prop where
  zero : ∀ c, r 0 c = f c
  succ : ∀ k c, r (k + 1) c = if c = a k then ⊤ else r k c
  least : ∀ k c, r k (a k) ≤ r k c
  first : ∀ k c, c < a k → r k (a k) < r k c

namespace Picks

variable {n : ℕ} {f : Fin n → EReal} {r : ℕ → Fin n → EReal} {a : ℕ → Fin n}

/-- An entry not yet taken is as it was; a taken one is infinite. -/
theorem left (h : Picks f r a) (k : ℕ) (c : Fin n) : r k c = if ∃ j < k, a j = c then ⊤ else f c := by
  induction k with
  | zero => simp [h.zero]
  | succ k ih =>
    rw [h.succ, ih]
    by_cases hc : c = a k
    · rw [if_pos hc, if_pos ⟨k, Nat.lt_succ_self k, hc.symm⟩]
    · rw [if_neg hc]
      refine if_congr ⟨fun ⟨j, hj, e⟩ => ⟨j, Nat.lt_succ_of_lt hj, e⟩, fun ⟨j, hj, e⟩ => ⟨j, ?_, e⟩⟩ rfl rfl
      rcases Nat.lt_succ_iff_lt_or_eq.mp hj with hj | rfl
      · exact hj
      · exact absurd e.symm hc

/-- Before the columns run out, a step takes one not taken before. -/
theorem fresh (h : Picks f r a) (hf : ∀ c, f c < ⊤) {k : ℕ} (hk : k < n) : ∀ j < k, a j ≠ a k := by
  intro j hj e
  have hcard : ((Finset.range k).image a).card < Fintype.card (Fin n) :=
    lt_of_le_of_lt Finset.card_image_le (by simpa using hk)
  obtain ⟨c, hc⟩ : ∃ c, c ∉ (Finset.range k).image a := by
    by_contra hall
    push Not at hall
    exact absurd hcard (by rw [Finset.eq_univ_iff_forall.mpr hall]; simp)
  have hc' : ¬ ∃ j < k, a j = c := fun ⟨j, hj, e⟩ => hc (Finset.mem_image.mpr ⟨j, Finset.mem_range.mpr hj, e⟩)
  have h1 := h.least k c
  rw [h.left k c, if_neg hc', h.left k (a k), if_pos ⟨j, hj, e⟩] at h1
  exact absurd (lt_of_le_of_lt h1 (hf c)) (lt_irrefl _)

theorem left_self (h : Picks f r a) (hf : ∀ c, f c < ⊤) {k : ℕ} (hk : k < n) : r k (a k) = f (a k) := by
  rw [h.left, if_neg]
  rintro ⟨j, hj, e⟩
  exact h.fresh hf hk j hj e

/-- What a step takes comes, by (entry, column), before every column not taken up to it. -/
theorem before (h : Picks f r a) (hf : ∀ c, f c < ⊤) {k : ℕ} (hk : k < n) {c : Fin n} (hc : ∀ j ≤ k, a j ≠ c) :
    f (a k) < f c ∨ (f (a k) = f c ∧ a k < c) := by
  have hleft : r k c = f c := by
    rw [h.left, if_neg]
    rintro ⟨j, hj, e⟩
    exact hc j hj.le e
  have h1 := h.least k c
  have h2 := h.first k c
  rw [h.left_self hf hk, hleft] at h1 h2
  rcases lt_or_eq_of_le h1 with h1 | h1
  · exact .inl h1
  · refine .inr ⟨h1, ?_⟩
    rcases lt_trichotomy c (a k) with h3 | h3 | h3
    · exact absurd (h2 h3) (by rw [h1]; exact lt_irrefl _)
    · exact absurd h3.symm (hc k le_rfl)
    · exact h3

end Picks

/-- Sorting a list whose later elements stand at greater positions by a key alone is sorting it by (key, position). -/
theorem stableSort_by_position {n : ℕ} (lt : Fin n → Fin n → Bool) (same : Fin n → Fin n → Bool) (l : List (Fin n))
    (hl : l.Pairwise (· < ·)) :
    stableSort lt l = stableSort (fun k k' => lt k k' || (same k k' && decide (k < k'))) l := by
  induction l with
  | nil => rfl
  | cons x l ih =>
    rw [List.pairwise_cons] at hl
    unfold stableSort
    rw [ih hl.2]
    refine insertBefore_congr _ _ x _ fun y hy => ?_
    have hxy : x < y := hl.1 y ((perm_stableSort _ l).mem_iff.mp hy)
    rw [decide_eq_false (not_lt.mpr hxy.le), Bool.and_false, Bool.or_false]

/-- The first `m` places of the stable sort of `n` entries by a key are filled by any `m` distinct positions in order of
    (key, position) that come before all the others. -/
theorem sortedFrom_of_key {n m : ℕ} (key : Fin n → EReal) (B : Fin n → Fin n → Bool) (hB : ∀ p q, B p q = decide (key p < key q))
    (hm : m ≤ n) (σ : Fin m → Fin n)
    (hinj : Function.Injective σ)
    (hord : ∀ i j : Fin m, i < j → key (σ i) < key (σ j) ∨ (key (σ i) = key (σ j) ∧ σ i < σ j))
    (hdom : ∀ (i : Fin m) (p : Fin n), (∀ j, σ j ≠ p) → key (σ i) < key p ∨ (key (σ i) = key p ∧ σ i < p))
    (i : Fin m) : sortedFrom B (i.castLE hm) = σ i := by
  classical
  obtain rfl : B = fun p q => decide (key p < key q) := funext fun p => funext fun q => hB p q
  have e : sortPositions n (fun p q => decide (key p < key q))
      = sortPositions n (fun k k' => decide (key k < key k') || (decide (key k = key k') && decide (k < k'))) :=
    stableSort_by_position _ (fun k k' => decide (key k = key k')) _ (List.pairwise_lt_finRange n)
  have hs : StrictTotalBefore fun k k' : Fin n => decide (key k < key k') || (decide (key k = key k') && decide (k < k')) :=
    StrictTotalBefore.of_key_then_position (fun x y => decide (x < y)) key (fun _ => by simp)
      (fun x y z h h' => by simp only [decide_eq_true_eq] at *; exact h.trans h')
      (fun x y => by simp only [decide_eq_true_eq]; exact lt_trichotomy x y)
  have hnot : ∀ p q, key p < key q ∨ (key p = key q ∧ p < q) →
      (decide (key q < key p) || (decide (key q = key p) && decide (q < p))) = false := by
    intro p q h
    rcases h with h | ⟨h, h'⟩
    · simp [h.not_gt, h.ne']
    · simp [h, h'.le]
  have := hs.sortedFrom_eq_of_prefix hm σ hinj (fun i j hij => hnot _ _ (hord i j hij)) (fun i p hp => hnot _ _ (hdom i p hp)) i
  rw [← this]
  exact List.get_of_eq e _

end Cert.Proof.Picks

end
-- ==== Proof.KernelPick.lean ====
/-
  The first call over the extended reals, at an index: each step takes the lowest column holding its row's least entry,
  so the stored neighbours are columns of the block; and the block's distances.
-/
module

public import proofs.«01_k».proof.Proof.KernelSteps
public import proofs.«01_k».proof.Proof.Picks
public import Idealize.ShloMosaic.Lib.Pointwise

@[expose] public section

set_option maxRecDepth 16384

noncomputable section

namespace Cert.Proof.KernelPick

open Cert.KernelIdeal Cert.KernelIdeal.Gen
open Idealize.ShloMosaic

theorem top_word : Ideal.ofBits .f32 0x7F800000#32 = ⊤ := by simp [Ideal.ofBits, Ideal.ieee]
theorem bot_word : Ideal.ofBits .f32 0xFF800000#32 = ⊥ := by simp [Ideal.ofBits, Ideal.ieee]

/-- A least element of finitely many, from infinity down, is below each of them, and if there is one at all is one. -/
theorem fold_min_le {n : ℕ} (f : Fin n → EReal) (c : Fin n) : Finset.univ.fold min ⊤ f ≤ f c :=
  (Finset.le_fold_min (Finset.univ.fold min ⊤ f)).mp le_rfl |>.2 c (Finset.mem_univ c)
theorem fold_min_mem {n : ℕ} (f : Fin n → EReal) (hn : 0 < n) : ∃ c, f c = Finset.univ.fold min ⊤ f := by
  obtain ⟨c, -, hc⟩ := Finset.exists_min_image Finset.univ f ⟨⟨0, hn⟩, Finset.mem_univ _⟩
  refine ⟨c, le_antisymm ?_ (fold_min_le f c)⟩
  exact (Finset.le_fold_min (f c)).mpr ⟨le_top, fun x hx => hc x hx⟩

/-- The signed least of words that are small numbers is the word of the least number. -/
theorem minsi_ofNat {x y : ℕ} (hx : x < 2 ^ 31) (hy : y < 2 ^ 31) :
    IntOp.minsi (BitVec.ofNat 32 x) (BitVec.ofNat 32 y) = BitVec.ofNat 32 (min x y) := by
  have hs : (BitVec.ofNat 32 x).slt (BitVec.ofNat 32 y) = decide (x < y) := by
    rw [BitVec.slt_eq_decide, BitVec.toInt_ofNat', BitVec.toInt_ofNat']
    have hx' : (x : ℤ) < 2 ^ 31 := by exact_mod_cast hx
    have hy' : (y : ℤ) < 2 ^ 31 := by exact_mod_cast hy
    rw [Int.bmod_eq_of_le (by omega) (by omega), Int.bmod_eq_of_le (by omega) (by omega)]
    simp
  unfold IntOp.minsi
  rw [hs]
  by_cases h : x < y
  · rw [if_pos (decide_eq_true h), min_eq_left h.le]
  · rw [if_neg (by simpa using h), min_eq_right (not_lt.mp h)]

theorem fold_minsi {n : ℕ} (f : Fin n → ℕ) (hf : ∀ c, f c < 2 ^ 31) (s : Finset (Fin n)) (init : ℕ) (hi : init < 2 ^ 31) :
    s.fold IntOp.minsi (BitVec.ofNat 32 init) (fun c => BitVec.ofNat 32 (f c)) = BitVec.ofNat 32 (s.fold min init f) := by
  classical
  have hlt : ∀ s : Finset (Fin n), s.fold min init f < 2 ^ 31 := fun s => by
    exact lt_of_le_of_lt ((Finset.fold_min_le init).mpr (.inl le_rfl)) hi
  induction s using Finset.induction_on with
  | empty => rfl
  | insert c s hc ih => rw [Finset.fold_insert hc, Finset.fold_insert hc, ih, minsi_ofNat (hf c) (hlt s)]

theorem low_apply (r : FVec Ideal S256x256 .f32) (i : Fin 256) (z : Fin 1) :
    KernelSteps.low r (ix2 i z) = Finset.univ.fold min ⊤ fun c : Fin 256 => r (ix2 i c) := by
  pointwise [KernelSteps.low]
  rw [top_word]

/-- A step takes a column of the block: the lowest of those holding the row's least entry. -/
theorem argm_spec (r : FVec Ideal S256x256 .f32) (i : Fin 256) (z : Fin 1) :
    ∃ a : Fin 256, KernelSteps.argm r (ix2 i z) = BitVec.ofNat 32 a.val ∧ (∀ c, r (ix2 i a) ≤ r (ix2 i c))
      ∧ ∀ c, c < a → r (ix2 i a) < r (ix2 i c) := by
  classical
  set g : Fin 256 → ℕ := fun c => if r (ix2 i c) = KernelSteps.low r (ix2 i 0) then c.val else 256 with hg
  have hgl : ∀ c, g c ≤ 256 := fun c => by simp only [hg]; split <;> omega
  have e : KernelSteps.argm r (ix2 i z) = BitVec.ofNat 32 (Finset.univ.fold min 2147483647 g) := by
    rw [← fold_minsi g (fun c => lt_of_le_of_lt (hgl c) (by norm_num)) Finset.univ 2147483647 (by norm_num)]
    pointwise [KernelSteps.argm, KernelSteps.msk, KernelSteps.it, KernelSteps.c256]
    congr 1
    funext c
    simp only [hg]
    split <;> rfl
  have hlow := low_apply r i 0
  obtain ⟨c₀, hc₀⟩ := fold_min_mem (fun c : Fin 256 => r (ix2 i c)) (by norm_num)
  have hex : ∃ k : ℕ, ∃ h : k < 256, r (ix2 i ⟨k, h⟩) = KernelSteps.low r (ix2 i 0) := ⟨c₀.val, c₀.isLt, by rw [hlow]; exact hc₀⟩
  let k := Nat.find hex
  obtain ⟨hk, hkv⟩ := Nat.find_spec hex
  have hmin : ∀ c : Fin 256, c.val < k → r (ix2 i c) ≠ KernelSteps.low r (ix2 i 0) :=
    fun c hc he => Nat.find_min hex hc ⟨c.isLt, he⟩
  have hle : ∀ c : Fin 256, r (ix2 i ⟨k, hk⟩) ≤ r (ix2 i c) := fun c => by
    rw [hkv, hlow]; exact fold_min_le _ c
  refine ⟨⟨k, hk⟩, ?_, hle, fun c hc => lt_of_le_of_ne (hle c) fun he => hmin c hc (by rw [← he, hkv])⟩
  refine e.trans (congrArg (BitVec.ofNat 32) (le_antisymm ?_ ?_))
  · exact (Finset.fold_min_le k).mpr (.inr ⟨⟨k, hk⟩, Finset.mem_univ _, by simp only [hg]; rw [if_pos hkv]⟩)
  · refine (Finset.le_fold_min k).mpr ⟨by have : k < 256 := hk; omega, fun c _ => ?_⟩
    simp only [hg]
    split
    · rename_i h
      by_contra hlt
      exact hmin c (by omega) h
    · have : k < 256 := hk
      omega

/-- The column step `k` takes in row `i`. -/
def pick (X : Vec Ideal S256x64 .f32) (i : Fin 256) (k : ℕ) : Fin 256 := (argm_spec (KernelSteps.run X k) i 0).choose

theorem am_apply (X : Vec Ideal S256x64 .f32) (i : Fin 256) (k : ℕ) (z : Fin 1) :
    KernelSteps.am X k (ix2 i z) = BitVec.ofNat 32 (pick X i k).val := by
  obtain rfl : z = 0 := Subsingleton.elim _ _
  exact (argm_spec (KernelSteps.run X k) i 0).choose_spec.1

theorem run_succ_apply (X : Vec Ideal S256x64 .f32) (k : ℕ) (i c : Fin 256) :
    KernelSteps.run X (k + 1) (ix2 i c) = if c = pick X i k then ⊤ else KernelSteps.run X k (ix2 i c) := by
  have h := am_apply X i k 0
  unfold KernelSteps.am at h
  pointwise [KernelSteps.run, KernelSteps.hit, KernelSteps.it, KernelSteps.infs]
  rw [h, top_word]
  have hiff : BitVec.ofNat 32 c.val = BitVec.ofNat 32 (pick X i k).val ↔ c = pick X i k := by
    rw [← BitVec.toNat_inj, BitVec.toNat_ofNat, BitVec.toNat_ofNat, Nat.mod_eq_of_lt (by omega), Nat.mod_eq_of_lt (by omega)]
    exact Fin.ext_iff.symm
  by_cases hc : c = pick X i k
  · rw [if_pos hc, hiff.mpr hc]; simp [IntOp.cmpi, Scalar.select]
  · rw [if_neg hc]
    have : ¬ BitVec.ofNat 32 c.val = BitVec.ofNat 32 (pick X i k).val := fun h => hc (hiff.mp h)
    rw [show IntOp.cmpi .eq (BitVec.ofNat 32 c.val) (BitVec.ofNat 32 (pick X i k).val) = 0#1 by
      show BitVec.ofBool (_ == _) = 0#1
      rw [beq_eq_false_iff_ne.mpr this]; rfl]
    rfl

/-- The steps take columns as `Picks` describes. -/
theorem picks (X : Vec Ideal S256x64 .f32) (i : Fin 256) :
    Picks.Picks (fun c => KernelSteps.dist X (ix2 i c)) (fun k c => KernelSteps.run X k (ix2 i c)) (pick X i) where
  zero _ := rfl
  succ k c := run_succ_apply X k i c
  least k c := (argm_spec (KernelSteps.run X k) i 0).choose_spec.2.1 c
  first k c := (argm_spec (KernelSteps.run X k) i 0).choose_spec.2.2 c

/-- What is stored in row `i`, column `j`: step `j + 1`'s column, the two last columns zero, the block's first row added. -/
theorem nbrs_apply (b : BitVec 32) (X : Vec Ideal S256x64 .f32) (i : Fin 256) (j : Fin 32) :
    KernelSteps.nbrs b X (ix2 i j)
      = (if j.val < 30 then BitVec.ofNat 32 (pick X i (j.val + 1)).val else 0#32) + b * 256#32 := by
  pointwise [KernelSteps.nbrs]
  fin_vals j with hj
  all_goals simp only [hj, Nat.reduceSub, Nat.reduceLT, ↓reduceDIte, ↓reduceIte, am_apply, Nat.reduceAdd]
  all_goals rfl

/-- The squared distance of two of the block's rows, as the body computes it. -/
theorem dist_apply (X : Vec Ideal S256x64 .f32) (i c : Fin 256) :
    KernelSteps.dist X (ix2 i c)
      = (∑ k : Fin 64, X (ix2 i k) * X (ix2 i k) + ∑ k : Fin 64, X (ix2 c k) * X (ix2 c k))
        - Ideal.ofBits .f32 0x40000000#32 * ∑ k : Fin 64, X (ix2 i k) * X (ix2 c k) := by
  pointwise [KernelSteps.dist, KernelSteps.sq]
  simp only [Finset.univ_unique, Finset.sum_singleton]

theorem outA_apply (V : Vec Ideal S256x64 .f32) (W : Vec Ideal S64x64 .f32) (b : Vec Ideal S1x64 .f32) (i : Fin 256) (j : Fin 64) :
    k0_pay69 V W b (ix2 i j) = ∑ k : Fin 64, V (ix2 i k) * W (ix2 k j) + b (ix2 0 j) := by
  pointwise [k0_pay69]

theorem outC_apply (V : Vec Ideal S256x64 .f32) (W : Vec Ideal S64x64 .f32) (i : Fin 256) (j : Fin 128) (hj : j.val < 64) :
    k0_pay1 V W (ix2 i j) = ∑ k : Fin 64, V (ix2 i k) * W (ix2 k ⟨j.val, hj⟩) := by
  pointwise [k0_pay1]
  rw [dif_pos hj]

/-- The second call at an index: the greatest over the row's thirty edges of the edge's network. -/
theorem mlp_apply (A : Vec Ideal S256x64 .f32) (G : Vec Ideal S7680x128 .f32) (W2 : Vec Ideal S64x64 .f32) (b2 : Vec Ideal S1x64 .f32)
    (W3 : Vec Ideal S64x64 .f32) (b3 : Vec Ideal S1x64 .f32) (i : Fin 256) (j : Fin 64) :
    k2_pay1 A G W2 b2 W3 b3 (ix2 i j)
      = Finset.univ.fold max ⊥ fun x : Fin 30 =>
          max (∑ x₁ : Fin 64, max (∑ x₂ : Fin 64,
              max (A (ix2 i x₂) - G (ix2 ⟨i.val * 30 + x.val, by omega⟩ ⟨x₂.val, by omega⟩)) 0 * W2 (ix2 x₂ x₁) + b2 (ix2 0 x₁)) 0
            * W3 (ix2 x₁ j) + b3 (ix2 0 j)) 0 := by
  pointwise [k2_pay1]
  rw [bot_word]

end Cert.Proof.KernelPick

end
-- ==== Proof.KernelKnn.lean ====
/-
  The first call of the kernel, on the TensorCore: per block of 256 vertices each vertex's thirty nearest others, and the
  two projections of the block. The body's run, and the region's proof data.
-/
module

public import proofs.«01_k».proof.Proof.KernelSteps

@[expose] public section

noncomputable section

namespace Cert.Proof.KernelKnn

open Cert.KernelIdeal Cert.KernelIdeal.Gen Cert.Proof.KernelBase Cert.Proof.KernelSteps
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The body's memory operations, the neighbours' buffer stored at the selection steps' columns. -/
def steps (i : grid0.Coords) (arg1 : Memref sig .tc .vmem S256x64 .f32) (harg1 : arg1.IsWhole) (arg2 : Memref sig .tc .vmem S64x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S256x32 .i32) (harg5 : arg5.IsWhole) (arg6 : Memref sig .tc .vmem S256x64 .f32) (harg6 : arg6.IsWhole) (arg7 : Memref sig .tc .vmem S256x128 .f32) (harg7 : arg7.IsWhole) : Prog (TpuEff nD τ sig (Elt F) Λ₀ .tc) PUnit := do
  let v0 : Vec F S256x64 .f32 ← Prog.lift (.load arg1 (Rect.unit (s := S256x64) ![0, 0] S256x64.size inb_S256x64_S256x64_0_0).toLoadRect (View.loadsAt_vmem h_S256x64))
  let _ : Vec F S256x32 .i32 ← Prog.lift (.load arg5 (Rect.unit (s := S256x32) ![0, 0] S256x32.size inb_S256x32_S256x32_0_0).toLoadRect (View.loadsAt_vmem h_S256x32))
  Prog.lift (.store arg5 (Rect.unit (s := S256x32) ![0, 0] S256x32.size inb_S256x32_S256x32_0_0) (nbrs (BitVec.ofNat 32 (i 0).val) v0) Finset.univ (View.stores_vmem_bits_univ h_S256x32 rfl) (.inl rfl))
  let v387 : Vec F S64x64 .f32 ← Prog.lift (.load arg2 (Rect.unit (s := S64x64) ![0, 0] S64x64.size inb_S64x64_S64x64_0_0).toLoadRect (View.loadsAt_vmem h_S64x64))
  let v390 : Vec F S1x64 .f32 ← Prog.lift (.load arg4 (Rect.unit (s := S1x64) ![0, 0] S1x64.size inb_S1x64_S1x64_0_0).toLoadRect (View.loadsAt_vmem h_S1x64))
  let _ : Vec F S256x64 .f32 ← Prog.lift (.load arg6 (Rect.unit (s := S256x64) ![0, 0] S256x64.size inb_S256x64_S256x64_0_0).toLoadRect (View.loadsAt_vmem h_S256x64))
  Prog.lift (.store arg6 (Rect.unit (s := S256x64) ![0, 0] S256x64.size inb_S256x64_S256x64_0_0) (k0_pay69 v0 v387 v390) Finset.univ (View.stores_vmem_bits_univ h_S256x64 rfl) (.inl rfl))
  let v395 : Vec F S64x64 .f32 ← Prog.lift (.load arg3 (Rect.unit (s := S64x64) ![0, 0] S64x64.size inb_S64x64_S64x64_0_0).toLoadRect (View.loadsAt_vmem h_S64x64))
  let _ : Vec F S256x128 .f32 ← Prog.lift (.load arg7 (Rect.unit (s := S256x128) ![0, 0] S256x128.size inb_S256x128_S256x128_0_0).toLoadRect (View.loadsAt_vmem h_S256x128))
  Prog.lift (.store arg7 (Rect.unit (s := S256x128) ![0, 0] S256x128.size inb_S256x128_S256x128_0_0) (k0_pay1 v0 v395) Finset.univ (View.stores_vmem_bits_univ h_S256x128 rfl) (.inl rfl))
  pure ⟨⟩

theorem skel_eq (i : grid0.Coords) (arg1 : Memref sig .tc .vmem S256x64 .f32) (harg1 : arg1.IsWhole) (arg2 : Memref sig .tc .vmem S64x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S256x32 .i32) (harg5 : arg5.IsWhole) (arg6 : Memref sig .tc .vmem S256x64 .f32) (harg6 : arg6.IsWhole) (arg7 : Memref sig .tc .vmem S256x128 .f32) (harg7 : arg7.IsWhole) :
    cc0__knn_proj_kernel_skel (F := F) i arg1 harg1 arg2 harg2 arg3 harg3 arg4 harg4 arg5 harg5 arg6 harg6 arg7 harg7 = steps i arg1 harg1 arg2 harg2 arg3 harg3 arg4 harg4 arg5 harg5 arg6 harg6 arg7 harg7 := by
  unfold cc0__knn_proj_kernel_skel steps
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  rw [show iota .tc S256x256 32 [1] iota_S256x256_d1_w32 = it from rfl]
  simp only [Prog.lift, Prog.bind_op, Prog.bind_ret, Prog.pure_eq_ret, p2, p3, p4, p5, p6, p7, p8, p9, p10, p11, p12, p13, p14, p15, p16, p17, p18, p19, p20, p21, p22, p23, p24, p25, p26, p27, p28, p29, p30, p31, p32, p33, p34, p35, p36, p37, p38, p39, p40, p41, p42, p43, p44, p45, p46, p47, p48, p49, p50, p51, p52, p53, p54, p55, p56, p57, p58, p59, p60, p61, p62, p63, p64, p65, p66, p67, p68]

/-- The body, on staging buffers that read `X₁ … X₄`: it leaves them, and the results' buffers at the block's neighbours and
    its two projections. -/
theorem body_run [∀ e, Nonempty (Elt F e)] (c : Dev nD) (i : grid0.Coords)
    (M1 : Memref sig .tc .vmem S256x64 .f32) (h1 : M1.IsWhole)
    (M2 : Memref sig .tc .vmem S64x64 .f32) (h2 : M2.IsWhole)
    (M3 : Memref sig .tc .vmem S64x64 .f32) (h3 : M3.IsWhole)
    (M4 : Memref sig .tc .vmem S1x64 .f32) (h4 : M4.IsWhole)
    (M5 : Memref sig .tc .vmem S256x32 .i32) (h5 : M5.IsWhole)
    (M6 : Memref sig .tc .vmem S256x64 .f32) (h6 : M6.IsWhole)
    (M7 : Memref sig .tc .vmem S256x128 .f32) (h7 : M7.IsWhole)
    (X1 : Vec F S256x64 .f32) (X2 : Vec F S64x64 .f32) (X3 : Vec F S64x64 .f32) (X4 : Vec F S1x64 .f32) (X5 : Vec F S256x32 .i32) (X6 : Vec F S256x64 .f32) (X7 : Vec F S256x128 .f32) (Q : PUnit → sProp 𝕄) :
    iprop(owns c M1 fullShare X1 ∗ owns c M2 fullShare X2 ∗ owns c M3 fullShare X3 ∗ owns c M4 fullShare X4 ∗ owns c M5 fullShare X5 ∗ owns c M6 fullShare X6 ∗ owns c M7 fullShare X7
        ∗ (iprop(owns c M1 fullShare X1 ∗ owns c M2 fullShare X2 ∗ owns c M3 fullShare X3 ∗ owns c M4 fullShare X4 ∗ owns c M5 fullShare (nbrs (BitVec.ofNat 32 (i 0).val) X1) ∗ owns c M6 fullShare (k0_pay69 X1 X2 X4) ∗ owns c M7 fullShare (k0_pay1 X1 X3)) -∗ Q ⟨⟩))
      ⊢ wp frame (wpE (defs₀ (F := F)) 𝒱₀ c none) Set.univ (cc0__knn_proj_kernel i M1 h1 M2 h2 M3 h3 M4 h4 M5 h5 M6 h6 M7 h7) Q := by
  rw [cc0__knn_proj_kernel_eq_skeleton]
  rw [skel_eq]
  unfold owns steps
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, Hk⟩
  subst e1 e2 e3 e4
  sl_exec
  sl_step
  have e1 := loaded (Val := Elt F) (S := S256x64) M1.view f1 zeros₂ inb_S256x64_S256x64_0_0
  have e2 := loaded (Val := Elt F) (S := S64x64) M2.view f2 zeros₂ inb_S64x64_S64x64_0_0
  have e3 := loaded (Val := Elt F) (S := S64x64) M3.view f3 zeros₂ inb_S64x64_S64x64_0_0
  have e4 := loaded (Val := Elt F) (S := S1x64) M4.view f4 zeros₂ inb_S1x64_S1x64_0_0
  iapply Hk
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  isplitl [H5]
  · iexists _; isplitr; swap; (· iexact H5); ipureintro
    exact (read_stored (S := S256x32) M5.view f5 zeros₂ inb_S256x32_S256x32_0_0 _).trans (congrArg (nbrs _) e1)
  isplitl [H6]
  · iexists _; isplitr; swap; (· iexact H6); ipureintro
    refine (read_stored (S := S256x64) M6.view f6 zeros₂ inb_S256x64_S256x64_0_0 _).trans ?_
    rw [e1, e2, e4]
  iexists _; isplitr; swap; (· iexact H7); ipureintro
  refine (read_stored (S := S256x128) M7.view f7 zeros₂ inb_S256x128_S256x128_0_0 _).trans ?_
  exact congrArg₂ k0_pay1 e1 e3

/-! ## The region's proof data, from the arrays' contents at its entry -/

variable (V : Dev nD → Valuation τ sig (Elt F)) (O : Dev nD → CellTallies nD τ sig (HIx 1)) (B : Dev nD → Set (SemLoc sig × HIx 1))

/-- Window `w`'s array at the entry, and its block at point `t`. -/
abbrev arr (c : Dev nD) (w : Fin 7) : Buf (Elt F) ((c : Thread nD τ).loc (Pipeline.arrRef spec0 w)) := V c (Proc.devRef .tc (Pipeline.arrRef spec0 w))
abbrev blkOf (c : Dev nD) (w : Fin 7) (t : Fin cfg0.N) : ((cfg0.win w).xblock (cfg0.grid.coords t)).Idx → Elt F (cfg0.win w).elt :=
  ((cfg0.win w).blk t).view.read (Elt F) (arr V c w)

/-- What the body leaves in the results' buffers at point `t`. -/
def outN (c : Dev nD) (t : Fin cfg0.N) : Vec F S256x32 .i32 := nbrs (BitVec.ofNat 32 (grid0.coords t 0).val) (blkOf V c 0 t)
def outA (c : Dev nD) (t : Fin cfg0.N) : Vec F S256x64 .f32 := k0_pay69 (blkOf V c 0 t) (blkOf V c 1 t) (blkOf V c 3 t)
def outC (c : Dev nD) (t : Fin cfg0.N) : Vec F S256x128 .f32 := k0_pay1 (blkOf V c 0 t) (blkOf V c 2 t)

abbrev Φc (c : Dev nD) : sProp 𝕄 := Pipeline.scopedRest (Ix := HIx 1) (Name := ℕ) (U := UU) (Lvl := ℕ) (Val := Elt F) spec0 c

/-- Each window's array at the entry; after the body the operands' buffers as fetched and the results' at theirs; the core
    owing `O` throughout, its waits recorded within `B`. -/
def dat (c : Dev nD) : Dat τ (Elt F) (HIx 1) ℕ UU ℕ cfg0 c where
  A w := arr V c w
  after w t := match w with
    | ⟨0, _⟩ => blkOf V c 0 t
    | ⟨1, _⟩ => blkOf V c 1 t
    | ⟨2, _⟩ => blkOf V c 2 t
    | ⟨3, _⟩ => blkOf V c 3 t
    | ⟨4, _⟩ => outN V c t
    | ⟨5, _⟩ => outA V c t
    | ⟨6, _⟩ => outC V c t
  Φ _ := Φc c
  q _ := fullShare
  owed _ := O c
  recorded _ := B c

theorem before_0 (c : Dev nD) (t : Fin cfg0.N) (d) : (dat V O B c).before 0 t d = blkOf V c 0 t :=
  ((dat V O B c).before_in_eq_fetched 0 rfl (fun _ => rfl) (fun _ _ _ => rfl) (fun _ => rfl) t d).trans rfl
theorem before_1 (c : Dev nD) (t : Fin cfg0.N) (d) : (dat V O B c).before 1 t d = blkOf V c 1 t :=
  ((dat V O B c).before_in_eq_fetched 1 rfl (fun _ => rfl) (fun _ _ _ => rfl) (fun _ => rfl) t d).trans rfl
theorem before_2 (c : Dev nD) (t : Fin cfg0.N) (d) : (dat V O B c).before 2 t d = blkOf V c 2 t :=
  ((dat V O B c).before_in_eq_fetched 2 rfl (fun _ => rfl) (fun _ _ _ => rfl) (fun _ => rfl) t d).trans rfl
theorem before_3 (c : Dev nD) (t : Fin cfg0.N) (d) : (dat V O B c).before 3 t d = blkOf V c 3 t :=
  ((dat V O B c).before_in_eq_fetched 3 rfl (fun _ => rfl) (fun _ _ _ => rfl) (fun _ => rfl) t d).trans rfl

theorem after_0 (c : Dev nD) (t : Fin cfg0.N) : (dat V O B c).after 0 t = blkOf V c 0 t := by dsimp only [dat]
theorem after_1 (c : Dev nD) (t : Fin cfg0.N) : (dat V O B c).after 1 t = blkOf V c 1 t := by dsimp only [dat]
theorem after_2 (c : Dev nD) (t : Fin cfg0.N) : (dat V O B c).after 2 t = blkOf V c 2 t := by dsimp only [dat]
theorem after_3 (c : Dev nD) (t : Fin cfg0.N) : (dat V O B c).after 3 t = blkOf V c 3 t := by dsimp only [dat]
theorem after_4 (c : Dev nD) (t : Fin cfg0.N) : (dat V O B c).after 4 t = outN V c t := by dsimp only [dat]
theorem after_5 (c : Dev nD) (t : Fin cfg0.N) : (dat V O B c).after 5 t = outA V c t := by dsimp only [dat]
theorem after_6 (c : Dev nD) (t : Fin cfg0.N) : (dat V O B c).after 6 t = outC V c t := by dsimp only [dat]

theorem body_obligation [∀ e, Nonempty (Elt F e)] (c : Dev nD) : BodyObligation (dat V O B c) (defs₀ (F := F)) 𝒱₀ (none : HIx 1) Set.univ := fun t => by
  rw [bigSep_W0, bigSep_W0]
  dsimp only
  simp only [before_0, before_1, before_2, before_3, after_0, after_1, after_2, after_3, after_4, after_5, after_6]
  rw [show (dat V O B c).Φ t.castSucc = Φc c from rfl, show (dat V O B c).Φ t.succ = Φc c from rfl,
    show (dat V O B c).owesAt (none : HIx 1) t.succ = (dat V O B c).owesAt (none : HIx 1) t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩⟩
  iapply (body_run c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6))
    (blkOf V c 0 t) (blkOf V c 1 t) (blkOf V c 2 t) (blkOf V c 3 t) _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  iexact H6

end Cert.Proof.KernelKnn

end
-- ==== Proof.KernelMlp.lean ====
/-
  The last call of the kernel, on the TensorCore: per block of 256 vertices the two small layers over the 30 gathered
  rows of each, and the maximum over them. The body's run, and the region's proof data.
-/
module

public import proofs.«01_k».proof.Proof.KernelBase

@[expose] public section

noncomputable section

namespace Cert.Proof.KernelMlp

open Cert.KernelIdeal Cert.KernelIdeal.Gen Cert.Proof.KernelBase
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The body, on staging buffers that read `X₁ … X₆`: it leaves them, and the result's buffer at the layers' value. -/
theorem body_run [∀ e, Nonempty (Elt F e)] (c : Dev nD) (i : grid2.Coords)
    (M1 : Memref sig .tc .vmem S7680x128 .f32) (h1 : M1.IsWhole) (M2 : Memref sig .tc .vmem S256x64 .f32) (h2 : M2.IsWhole)
    (M3 : Memref sig .tc .vmem S64x64 .f32) (h3 : M3.IsWhole) (M4 : Memref sig .tc .vmem S1x64 .f32) (h4 : M4.IsWhole)
    (M5 : Memref sig .tc .vmem S64x64 .f32) (h5 : M5.IsWhole) (M6 : Memref sig .tc .vmem S1x64 .f32) (h6 : M6.IsWhole)
    (M7 : Memref sig .tc .vmem S256x64 .f32) (h7 : M7.IsWhole)
    (X1 : Vec F S7680x128 .f32) (X2 : Vec F S256x64 .f32) (X3 : Vec F S64x64 .f32) (X4 : Vec F S1x64 .f32) (X5 : Vec F S64x64 .f32)
    (X6 : Vec F S1x64 .f32) (X7 : Vec F S256x64 .f32) (Q : PUnit → sProp 𝕄) :
    iprop(owns c M1 fullShare X1 ∗ owns c M2 fullShare X2 ∗ owns c M3 fullShare X3 ∗ owns c M4 fullShare X4 ∗ owns c M5 fullShare X5
        ∗ owns c M6 fullShare X6 ∗ owns c M7 fullShare X7
        ∗ (iprop(owns c M1 fullShare X1 ∗ owns c M2 fullShare X2 ∗ owns c M3 fullShare X3 ∗ owns c M4 fullShare X4 ∗ owns c M5 fullShare X5
            ∗ owns c M6 fullShare X6 ∗ owns c M7 fullShare (k2_pay1 X2 X1 X3 X4 X5 X6)) -∗ Q ⟨⟩))
      ⊢ wp frame (wpE (defs₀ (F := F)) 𝒱₀ c none) Set.univ (cc2__mlp_kernel i M1 h1 M2 h2 M3 h3 M4 h4 M5 h5 M6 h6 M7 h7) Q := by
  rw [cc2__mlp_kernel_eq_skeleton]
  unfold owns cc2__mlp_kernel_skel
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, Hk⟩
  subst e1 e2 e3 e4 e5 e6
  sl_exec
  sl_step
  iapply Hk
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  isplitl [H5]; · iexists _; isplitr; swap; (· iexact H5); ipureintro; rfl
  isplitl [H6]; · iexists _; isplitr; swap; (· iexact H6); ipureintro; rfl
  iexists _; isplitr; swap; (· iexact H7); ipureintro
  rw [View.read_writes_eq_canon _ _ _ fun y => ⟨_, List.mem_singleton_self _, View.mem_set_unit_zero zeros₂ inb_S256x64_S256x64_0_0 y⟩, View.canon_unit_zero zeros₂]
  simp only [View.readAt_eq_ld]
  congr 1 <;> exact View.ld_unit_zero zeros₂ _ _

/-! ## The region's proof data, from the arrays' contents at its entry -/

variable (V : Dev nD → Valuation τ sig (Elt F)) (O : Dev nD → CellTallies nD τ sig (HIx 1)) (B : Dev nD → Set (SemLoc sig × HIx 1))

/-- Window `w`'s array at the entry, and its block at point `t`. -/
abbrev arr (c : Dev nD) (w : Fin 7) : Buf (Elt F) ((c : Thread nD τ).loc (Pipeline.arrRef spec2 w)) := V c (Proc.devRef .tc (Pipeline.arrRef spec2 w))
abbrev blkOf (c : Dev nD) (w : Fin 7) (t : Fin cfg2.N) : ((cfg2.win w).xblock (cfg2.grid.coords t)).Idx → Elt F (cfg2.win w).elt :=
  ((cfg2.win w).blk t).view.read (Elt F) (arr V c w)

/-- What the body leaves in the result's buffer at point `t`. -/
def out (c : Dev nD) (t : Fin cfg2.N) : Vec F S256x64 .f32 :=
  k2_pay1 (blkOf V c 1 t) (blkOf V c 0 t) (blkOf V c 2 t) (blkOf V c 3 t) (blkOf V c 4 t) (blkOf V c 5 t)

abbrev Φc (c : Dev nD) : sProp 𝕄 := Pipeline.scopedRest (Ix := HIx 1) (Name := ℕ) (U := UU) (Lvl := ℕ) (Val := Elt F) spec2 c

/-- Each window's array at the entry; after the body the operands' buffers as fetched and the result's at `out`; the core
    owing `O` throughout, its waits recorded within `B`. -/
def dat (c : Dev nD) : Dat τ (Elt F) (HIx 1) ℕ UU ℕ cfg2 c where
  A w := arr V c w
  after w t := match w with
    | ⟨0, _⟩ => blkOf V c 0 t
    | ⟨1, _⟩ => blkOf V c 1 t
    | ⟨2, _⟩ => blkOf V c 2 t
    | ⟨3, _⟩ => blkOf V c 3 t
    | ⟨4, _⟩ => blkOf V c 4 t
    | ⟨5, _⟩ => blkOf V c 5 t
    | ⟨6, _⟩ => out V c t
  Φ _ := Φc c
  q _ := fullShare
  owed _ := O c
  recorded _ := B c

theorem before_0 (c : Dev nD) (t : Fin cfg2.N) (d) : (dat V O B c).before 0 t d = blkOf V c 0 t :=
  ((dat V O B c).before_in_eq_fetched 0 rfl (fun _ => rfl) (fun _ _ _ => rfl) (fun _ => rfl) t d).trans rfl
theorem before_1 (c : Dev nD) (t : Fin cfg2.N) (d) : (dat V O B c).before 1 t d = blkOf V c 1 t :=
  ((dat V O B c).before_in_eq_fetched 1 rfl (fun _ => rfl) (fun _ _ _ => rfl) (fun _ => rfl) t d).trans rfl
theorem before_2 (c : Dev nD) (t : Fin cfg2.N) (d) : (dat V O B c).before 2 t d = blkOf V c 2 t :=
  ((dat V O B c).before_in_eq_fetched 2 rfl (fun _ => rfl) (fun _ _ _ => rfl) (fun _ => rfl) t d).trans rfl
theorem before_3 (c : Dev nD) (t : Fin cfg2.N) (d) : (dat V O B c).before 3 t d = blkOf V c 3 t :=
  ((dat V O B c).before_in_eq_fetched 3 rfl (fun _ => rfl) (fun _ _ _ => rfl) (fun _ => rfl) t d).trans rfl
theorem before_4 (c : Dev nD) (t : Fin cfg2.N) (d) : (dat V O B c).before 4 t d = blkOf V c 4 t :=
  ((dat V O B c).before_in_eq_fetched 4 rfl (fun _ => rfl) (fun _ _ _ => rfl) (fun _ => rfl) t d).trans rfl
theorem before_5 (c : Dev nD) (t : Fin cfg2.N) (d) : (dat V O B c).before 5 t d = blkOf V c 5 t :=
  ((dat V O B c).before_in_eq_fetched 5 rfl (fun _ => rfl) (fun _ _ _ => rfl) (fun _ => rfl) t d).trans rfl

theorem after_0 (c : Dev nD) (t : Fin cfg2.N) : (dat V O B c).after 0 t = blkOf V c 0 t := by dsimp only [dat]
theorem after_1 (c : Dev nD) (t : Fin cfg2.N) : (dat V O B c).after 1 t = blkOf V c 1 t := by dsimp only [dat]
theorem after_2 (c : Dev nD) (t : Fin cfg2.N) : (dat V O B c).after 2 t = blkOf V c 2 t := by dsimp only [dat]
theorem after_3 (c : Dev nD) (t : Fin cfg2.N) : (dat V O B c).after 3 t = blkOf V c 3 t := by dsimp only [dat]
theorem after_4 (c : Dev nD) (t : Fin cfg2.N) : (dat V O B c).after 4 t = blkOf V c 4 t := by dsimp only [dat]
theorem after_5 (c : Dev nD) (t : Fin cfg2.N) : (dat V O B c).after 5 t = blkOf V c 5 t := by dsimp only [dat]
theorem after_6 (c : Dev nD) (t : Fin cfg2.N) : (dat V O B c).after 6 t = out V c t := by dsimp only [dat]

theorem body_obligation [∀ e, Nonempty (Elt F e)] (c : Dev nD) : BodyObligation (dat V O B c) (defs₀ (F := F)) 𝒱₀ (none : HIx 1) Set.univ := fun t => by
  rw [bigSep_W2, bigSep_W2]
  dsimp only
  simp only [before_0, before_1, before_2, before_3, before_4, before_5, after_0, after_1, after_2, after_3, after_4, after_5, after_6]
  rw [show (dat V O B c).Φ t.castSucc = Φc c from rfl, show (dat V O B c).Φ t.succ = Φc c from rfl,
    show (dat V O B c).owesAt (none : HIx 1) t.succ = (dat V O B c).owesAt (none : HIx 1) t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩⟩
  iapply (body_run c (grid2.coords t) _ (hstage2_0 ((cfg2.slots t 0).cast nbuf2_0)) _ (hstage2_1 ((cfg2.slots t 1).cast nbuf2_1)) _ (hstage2_2 ((cfg2.slots t 2).cast nbuf2_2)) _ (hstage2_3 ((cfg2.slots t 3).cast nbuf2_3)) _ (hstage2_4 ((cfg2.slots t 4).cast nbuf2_4)) _ (hstage2_5 ((cfg2.slots t 5).cast nbuf2_5)) _ (hstage2_6 ((cfg2.slots t 6).cast nbuf2_6))
    (blkOf V c 0 t) (blkOf V c 1 t) (blkOf V c 2 t) (blkOf V c 3 t) (blkOf V c 4 t) (blkOf V c 5 t) _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  iexact H6

end Cert.Proof.KernelMlp

end
-- ==== Proof.KernelTile.lean ====
/-
  One vector subcore's part of the kernel's gather. Tile `(c, s)` has number `w = 2 s + c`. It copies list `w` of the indices
  (30 chunks of 128 row numbers) into its own memory; then, thirty times, it gathers the 128 rows of the table that
  chunk `j` names into a buffer and copies the buffer out to rows `3840 w + 128 j …` of the result.

  Stated here, for any float instance and any contents of the table (`tab`) and of the index lists (`ids`) whose words
  all name rows of the table: the tile's task returns its list, its share of the table and its thirty blocks of the
  result, each block holding exactly the rows its chunk names (`rowsOf`).
-/
module

public import proofs.«01_k».proof.Proof.KernelBase
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.KernelTile

open Cert.KernelIdeal Cert.KernelIdeal.Gen Cert.Proof.KernelBase

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

/-! ## The buffers -/

abbrev tLoc (d : Dev nD) : Loc nD τ sig := (SparseCore.T d).loc main_v4_2
abbrev iLoc (d : Dev nD) : Loc nD τ sig := (SparseCore.T d).loc main_v6
abbrev oLoc (d : Dev nD) : Loc nD τ sig := (SparseCore.T d).loc main_v7

local notation "tV" => (Memref.whole Cert.KernelIdeal.main_v4_2_scv : Memref Cert.KernelIdeal.sig Kind.scVector Space.hbm Cert.KernelIdeal.S4096x128 EltTy.f32)
local notation "iV" => (Memref.whole Cert.KernelIdeal.main_v6_scv : Memref Cert.KernelIdeal.sig Kind.scVector Space.hbm Cert.KernelIdeal.S32x30x128 EltTy.i32)
local notation "oV" => (Memref.whole Cert.KernelIdeal.main_v7_scv : Memref Cert.KernelIdeal.sig Kind.scVector Space.hbm Cert.KernelIdeal.S122880x128 EltTy.f32)
local notation "sV" => (Memref.whole Cert.KernelIdeal.cc1_scratch0 : Memref Cert.KernelIdeal.sig Kind.scVector Space.vmem Cert.KernelIdeal.S30x128 EltTy.i32)
local notation "rV" => (Memref.whole Cert.KernelIdeal.cc1_scratch1 : Memref Cert.KernelIdeal.sig Kind.scVector Space.vmem Cert.KernelIdeal.S128x128 EltTy.f32)

/-! ## What the gather computes -/

/-- The row of the table a word names: the row of its value, row 0 if there is none. -/
def rowNo (v : BitVec 32) : Fin 4096 := if h : v.toNat < 4096 then ⟨v.toNat, h⟩ else 0

theorem rowNo_val {v : BitVec 32} (h : v.toNat < 4096) : (rowNo v).val = v.toNat := by rw [rowNo, dif_pos h]

/-- Where row `r` of the result finds its number: list `r / 3840`, chunk `r % 3840 / 128`, place `r % 128`. -/
def place (r : Fin 122880) : S32x30x128.Idx
  | 0 => (⟨r.val / 3840, by have := r.isLt; omega⟩ : Fin 32)
  | 1 => (⟨r.val % 3840 / 128, by omega⟩ : Fin 30)
  | 2 => (⟨r.val % 128, by omega⟩ : Fin 128)
  | ⟨_ + 3, h⟩ => absurd h (Nat.not_lt.2 (Nat.le_add_left _ _))

/-- An index of a table of `n` rows of 128 lanes. -/
def rc {n : ℕ} (r : Fin n) (l : Fin 128) : (⟨2, ![n, 128]⟩ : Shape).Idx
  | 0 => r
  | 1 => l
  | ⟨_ + 2, h⟩ => absurd h (Nat.not_lt.2 (Nat.le_add_left _ _))

theorem rc_ext {n : ℕ} {x y : (⟨2, ![n, 128]⟩ : Shape).Idx} (h0 : (x 0).val = (y 0).val) (h1 : (x 1).val = (y 1).val) : x = y := by
  funext a
  match a with
  | 0 => exact Fin.ext h0
  | 1 => exact Fin.ext h1

/-- The gathered rows: row `r` of the result is the row of the table that `r`'s number names. -/
def rowsOf (tab : S4096x128.Idx → Elt F .f32) (ids : S32x30x128.Idx → Elt F .i32) : S122880x128.Idx → Elt F .f32 :=
  fun x => tab (rc (rowNo (ids (place (x 0)))) (x 1))

/-! ## Parts of the lists and of the result -/

theorem idiv : 32 ∣ S32x30x128.size 0 := ⟨1, rfl⟩
theorem odiv : 960 ∣ S122880x128.size 0 := ⟨128, rfl⟩
/-- List `w` of the indices; block `b` of 128 rows of the result. -/
abbrev ipart (w : Fin 32) : Rect S32x30x128 := Rect.part (s := S32x30x128) (a₀ := 0) idiv w
abbrev opart (b : Fin 960) : Rect S122880x128 := Rect.part (s := S122880x128) (a₀ := 0) odiv b
abbrev iSet (w : Fin 32) : Finset S32x30x128.Idx := ((iV).view.slice (ipart w)).set
abbrev oSet (b : Fin 960) : Finset S122880x128.Idx := ((oV).view.slice (opart b)).set

/-- Block `j` of tile `w`. -/
def blk (w : Fin 32) (j : Fin 30) : Fin 960 := ⟨30 * w.val + j.val, by have := w.isLt; have := j.isLt; omega⟩

/-- Tile `w`'s share of the table. -/
abbrev tq (w : Fin 32) : PosShare TreeShare := pieceOf fullShare 32 (by decide) w

variable (tab : (d : Dev nD) → Buf (Elt F) (tLoc d)) (ids : (d : Dev nD) → Buf (Elt F) (iLoc d)) (out : (d : Dev nD) → Buf (Elt F) (oLoc d))

abbrev iPart (d : Dev nD) (w : Fin 32) : sProp 𝕄 := iLoc d ↦[iSet w]{fullShare} ids d
abbrev tPart (d : Dev nD) (w : Fin 32) : sProp 𝕄 := tLoc d ↦{tq w} tab d
abbrev oBlk (d : Dev nD) (b : Fin 960) (f : Buf (Elt F) (oLoc d)) : sProp 𝕄 := oLoc d ↦[oSet b]{fullShare} f

/-- What tile `w` is handed, and what it brings back. -/
def given (d : Dev nD) (w : Fin 32) : sProp 𝕄 :=
  iprop(iPart ids d w ∗ tPart tab d w ∗ bigSep Finset.univ fun j : Fin 30 => oBlk d (blk w j) (out d))
def brought (d : Dev nD) (w : Fin 32) : sProp 𝕄 :=
  iprop(iPart ids d w ∗ tPart tab d w ∗ bigSep Finset.univ fun j : Fin 30 => oBlk d (blk w j) (rowsOf (tab d) (ids d)))

instance given_storable (d : Dev nD) (w : Fin 32) : BI.Storable (upEmb : UEmb _ 𝕄) (given tab ids out d w) := by
  unfold given; infer_instance
instance brought_storable (d : Dev nD) (w : Fin 32) : BI.Storable (upEmb : UEmb _ 𝕄) (brought tab ids d w) := by
  unfold brought; infer_instance

/-! ## The task -/

variable [FloatOps F]

section Tile

variable (d : Dev nD) (L : grid1.Coords)

abbrev cV (L : grid1.Coords) : Fin τ.nSC := (L 0).castLE hcore1
abbrev jV (L : grid1.Coords) : Fin τ.nSub := (L 1).castLE hsub1
/-- The tile's number. -/
def wL (L : grid1.Coords) : Fin 32 := ⟨2 * (L 1).val + (L 0).val, by
  have h0 : (L 0).val < 2 := (L 0).isLt
  have h1 : (L 1).val < 16 := (L 1).isLt
  omega⟩

abbrev iRect (L : grid1.Coords) : Rect S32x30x128 := Rect.unit (s := S32x30x128) (k1_off1 L) S1x30x128.size (k1_off1_inb L)
abbrev oRect (L : grid1.Coords) (j : Fin k1_t1_loop.trips) : Rect S122880x128 :=
  Rect.unit (s := S122880x128) (k1_off3 L j) S128x128.size (k1_off3_inb L j)
abbrev sRect (j : Fin k1_t1_loop.trips) : Rect S30x128 := Rect.unit (s := S30x128) (k1_off2 j) S1x128.size (k1_off2_inb j)

/-- The tile's list, its chunk `j` in the tile's memory, block `j` of the result and the table, as the task addresses them. -/
abbrev iM (L : grid1.Coords) : Memref sig .scVector .hbm S30x128 .i32 :=
  ((iV).slice (iRect L) (fun _ => rfl)).squeeze S30x128 squeezes_S1x30x128_S30x128
abbrev sM (j : Fin k1_t1_loop.trips) : Memref sig .scVector .vmem S128 .i32 :=
  ((sV).slice (sRect j) (fun _ => rfl)).squeeze S128 squeezes_S1x128_S128
abbrev oM (L : grid1.Coords) (j : Fin k1_t1_loop.trips) : Memref sig .scVector .hbm S128x128 .f32 :=
  (oV).slice (oRect L j) (fun _ => rfl)
abbrev tM : Memref sig .scVector .hbm S4096x128 .f32 :=
  (tV).slice (Rect.unit (s := S4096x128) ![0, 0] S4096x128.size inb_S4096x128_S4096x128_0_0) (fun _ => rfl)

theorem trips_eq : k1_t1_loop.trips = 30 := by decide +kernel
abbrev ch (j : Fin k1_t1_loop.trips) : Fin 30 := j.cast trips_eq

omit [FloatOps F] in
theorem iRect_eq : iRect L = ipart (wL L) := by
  unfold iRect ipart Rect.part Rect.block
  congr 1 <;> funext a
  · rw [k1_off1_eq]
    match a with
    | 0 => simp [Shape.partIx, Shape.partSize, wL]
    | 1 => simp [Shape.partIx, Shape.partSize]
    | 2 => simp [Shape.partIx, Shape.partSize]
  · match a with
    | 0 => simp [Shape.partSize]
    | 1 => simp [Shape.partSize]
    | 2 => simp [Shape.partSize]

omit [FloatOps F] in
theorem oRect_eq (j : Fin k1_t1_loop.trips) : oRect L j = opart (blk (wL L) (ch j)) := by
  unfold oRect opart Rect.part Rect.block
  congr 1 <;> funext a
  · rw [k1_off3_eq]
    match a with
    | 0 => simp [Shape.partIx, Shape.partSize, wL, blk]; omega
    | 1 => simp [Shape.partIx, Shape.partSize]
  · match a with
    | 0 => simp [Shape.partSize]
    | 1 => simp [Shape.partSize]

omit [FloatOps F] in
theorem set_iM : (iM L).view.set = iSet (wL L) := by
  show (((iV).view.slice (iRect L)).reshape S30x128 squeezes_S1x30x128_S30x128.numel_eq).set = ((iV).view.slice (ipart (wL L))).set
  rw [View.set_reshape]
  exact iRect_eq L ▸ rfl
omit [FloatOps F] in
theorem set_oM (j : Fin k1_t1_loop.trips) : (oM L j).view.set = oSet (blk (wL L) (ch j)) := by
  show ((oV).view.slice (oRect L j)).set = ((oV).view.slice (opart (blk (wL L) (ch j)))).set
  exact oRect_eq L j ▸ rfl

omit [FloatOps F] in
theorem pts_iM (f : Buf (Elt F) (iLoc d)) :
    ((iM L).view.loc (V d (cV L) (jV L)) ↦[(iM L).view.set]{fullShare} f : sProp 𝕄) = iLoc d ↦[iSet (wL L)]{fullShare} f := by
  rw [set_iM]
omit [FloatOps F] in
theorem pts_oM (j : Fin k1_t1_loop.trips) (f : Buf (Elt F) (oLoc d)) :
    ((oM L j).view.loc (V d (cV L) (jV L)) ↦[(oM L j).view.set]{fullShare} f : sProp 𝕄) = oLoc d ↦[oSet (blk (wL L) (ch j))]{fullShare} f := by
  rw [set_oM]
omit [FloatOps F] in
theorem pts_tV (q : PosShare TreeShare) (f : Buf (Elt F) (tLoc d)) :
    ((tV).view.loc (V d (cV L) (jV L)) ↦{q} f : sProp 𝕄) = tLoc d ↦{q} f := rfl
omit [FloatOps F] in
theorem pts_sV (f : Buf (Elt F) ((V d (cV L) (jV L)).loc cc1_scratch0)) :
    ((sV).view.loc (V d (cV L) (jV L)) ↦{fullShare} f : sProp 𝕄) = (V d (cV L) (jV L)).loc cc1_scratch0 ↦{fullShare} f := rfl
omit [FloatOps F] in
theorem pts_rV (f : Buf (Elt F) ((V d (cV L) (jV L)).loc cc1_scratch1)) :
    ((rV).view.loc (V d (cV L) (jV L)) ↦{fullShare} f : sProp 𝕄) = (V d (cV L) (jV L)).loc cc1_scratch1 ↦{fullShare} f := rfl

abbrev gCell (d : Dev nD) (c : Fin τ.nSC) (i : Fin τ.nSub) : GSem nD τ sig := (V d c i, .dma cc1_scratch2.sem)
abbrev lCell (d : Dev nD) (c : Fin τ.nSC) (i : Fin τ.nSub) : GSem nD τ sig := (V d c i, .dma cc1_scoped0.sem)
abbrev wCell (d : Dev nD) (c : Fin τ.nSC) (i : Fin τ.nSub) : GSem nD τ sig := (V d c i, .dma cc1_scoped1.sem)

omit [FloatOps F] in
/-- The tile's three DMA semaphores among its own. -/
theorem ownSems0_V :
    (ownSems0 (V d (cV L) (jV L)) : sProp 𝕄)
      = iprop(semVal (gCell d (cV L) (jV L)) 0 ∗ semVal (lCell d (cV L) (jV L)) 0 ∗ semVal (wCell d (cV L) (jV L)) 0
          ∗ bigSep ((((ownCells (V d (cV L) (jV L))).erase (gCell d (cV L) (jV L))).erase (lCell d (cV L) (jV L))).erase (wCell d (cV L) (jV L))) fun g => semVal g 0) := by
  unfold SparseCore.Cfg.ownSems0
  rw [SparseCore.bigSep_erase' ((mem_ownCells (g := gCell d (cV L) (jV L))).mpr ⟨rfl, by
      show (SemLoc.dma cc1_scratch2.sem : SemLoc sig).isScoped .scVector = true; decide⟩),
    SparseCore.bigSep_erase' (Finset.mem_erase.mpr ⟨by simp [gCell, lCell]; decide, (mem_ownCells (g := lCell d (cV L) (jV L))).mpr ⟨rfl, by
      show (SemLoc.dma cc1_scoped0.sem : SemLoc sig).isScoped .scVector = true; decide⟩⟩),
    SparseCore.bigSep_erase' (Finset.mem_erase.mpr ⟨by simp [lCell, wCell]; decide, Finset.mem_erase.mpr ⟨by simp [gCell, wCell]; decide,
      (mem_ownCells (g := wCell d (cV L) (jV L))).mpr ⟨rfl, by show (SemLoc.dma cc1_scoped1.sem : SemLoc sig).isScoped .scVector = true; decide⟩⟩⟩)]

omit [FloatOps F] in
/-- The tile's two scratch buffers among its own. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-! ### The values -/

/-- The tile's list, as its index buffer holds it. -/
abbrev list (d : Dev nD) (L : grid1.Coords) : S30x128.Idx → Elt F .i32 := (iM L).view.read (Elt F) (ids d)

/-- Place `(w, j, l)` of the index lists. -/
def at3 (w : Fin 32) (j : Fin 30) (l : Fin 128) : S32x30x128.Idx
  | 0 => w
  | 1 => j
  | 2 => l
  | ⟨_ + 3, h⟩ => absurd h (Nat.not_lt.2 (Nat.le_add_left _ _))

omit [FloatOps F] in
/-- Chunk `j` of the tile's list, read at place `l`, is word `(w, j, l)` of the index lists. -/
theorem read_chunk (j : Fin k1_t1_loop.trips) (l : S128.Idx) :
    (sM j).view.read (Elt F) (list ids d L : Buf (Elt F) ((V d (cV L) (jV L)).loc cc1_scratch0)) l = ids d (at3 (wL L) (ch j) (l 0)) := by
  have e1 : (sM j).view.emb l = (rc (ch j) (l 0) : S30x128.Idx) := by
    show (sRect j).emb (Shape.reshapeEquiv squeezes_S1x128_S128.numel_eq l) = _
    rw [show Shape.reshapeEquiv squeezes_S1x128_S128.numel_eq l = Fin.cons ⟨0, Nat.one_pos⟩ l from Shape.reshapeEquiv_cons_one _ l]
    refine rc_ext ?_ ?_
    · show (k1_off2 j) 0 + 1 * 0 = j.val
      rw [k1_off2_eq]; simp
    · show (k1_off2 j) 1 + 1 * (l 0).val = (l 0).val
      rw [k1_off2_eq]; simp
  have e2 : ∀ y : S30x128.Idx, (iM L).view.emb y = at3 (wL L) (y 0) (y 1) := by
    intro y
    show (iRect L).emb (Shape.reshapeEquiv squeezes_S1x30x128_S30x128.numel_eq y) = _
    rw [show Shape.reshapeEquiv squeezes_S1x30x128_S30x128.numel_eq y = Fin.cons ⟨0, Nat.one_pos⟩ y from Shape.reshapeEquiv_cons_one _ y]
    funext a
    match a with
    | 0 => refine Fin.ext ?_; show (k1_off1 L) 0 + 1 * 0 = 2 * (L 1).val + (L 0).val; rw [k1_off1_eq]; simp
    | 1 => refine Fin.ext ?_; show (k1_off1 L) 1 + 1 * (y 0).val = (y 0).val; rw [k1_off1_eq]; simp
    | 2 => refine Fin.ext ?_; show (k1_off1 L) 2 + 1 * (y 1).val = (y 1).val; rw [k1_off1_eq]; simp
  show ids d ((iM L).view.emb ((sM j).view.emb l)) = _
  rw [e1, e2]; rfl

/-- Every word of the lists names a row of the table. -/
def InRows (ids : (d : Dev nD) → Buf (Elt F) (iLoc d)) : Prop := ∀ (d : Dev nD) (x : S32x30x128.Idx), (ids d x : BitVec 32).toNat < 4096

omit [FloatOps F] in
theorem chunk_in (hids : InRows ids) (j : Fin k1_t1_loop.trips) (l : S128.Idx) :
    ((sM j).view.read (Elt F) (list ids d L : Buf (Elt F) ((V d (cV L) (jV L)).loc cc1_scratch0)) l).toNat
      < S4096x128.size gathers_S4096x128_S128x128.axis := by
  rw [read_chunk]; exact hids d _

/-- The buffer after the gather of chunk `j`. -/
abbrev gathered (hids : InRows ids) (j : Fin k1_t1_loop.trips) : S128x128.Idx → Elt F .f32 :=
  SparseCore.gatherPayload gathers_S4096x128_S128x128 ((tM).view.read (Elt F) (tab d))
    (SparseCore.rows ((sM j).view.read (Elt F) (list ids d L : Buf (Elt F) ((V d (cV L) (jV L)).loc cc1_scratch0))) rfl (chunk_in ids d L hids j))

omit [FloatOps F] in
/-- Block `j` of the result, written with the gathered buffer, agrees on the block with the gathered rows. -/
theorem block_value (hids : InRows ids) (j : Fin k1_t1_loop.trips) (f : Buf (Elt F) (oLoc d)) :
    ∀ x ∈ oSet (blk (wL L) (ch j)),
      (oM L j).view.write (Elt F) f (gathered tab ids d L hids j) Finset.univ x = rowsOf (tab d) (ids d) x := by
  intro x hx
  rw [← set_oM] at hx
  obtain ⟨y, -, rfl⟩ := Finset.mem_map.mp hx
  rw [View.write_emb_of_mem _ _ (Finset.mem_univ y)]
  have w0 : (wL L).val = 2 * (L 1).val + (L 0).val := rfl
  have hj : j.val < 30 := trips_eq ▸ j.isLt
  have hy0 : (y 0).val < 128 := (y 0).isLt
  have e0 : (((oM L j).view.emb y) 0).val = 3840 * (wL L).val + 128 * j.val + (y 0).val := by
    show (k1_off3 L j) 0 + 1 * (y 0).val = _
    rw [k1_off3_eq]; simp [wL]; omega
  have e1 : (((oM L j).view.emb y) 1).val = (y 1).val := by
    show (k1_off3 L j) 1 + 1 * (y 1).val = _
    rw [k1_off3_eq]; simp
  have ep : place (((oM L j).view.emb y) 0) = at3 (wL L) (ch j) (y 0) := by
    funext a
    match a with
    | 0 => refine Fin.ext ?_; show (((oM L j).view.emb y) 0).val / 3840 = (wL L).val; rw [e0]; omega
    | 1 => refine Fin.ext ?_; show (((oM L j).view.emb y) 0).val % 3840 / 128 = j.val; rw [e0]; omega
    | 2 => refine Fin.ext ?_; show (((oM L j).view.emb y) 0).val % 128 = (y 0).val; rw [e0]; omega
  have key : ∀ (l : S128.Idx), (l 0).val = (y 0).val →
      (((sM j).view.read (Elt F) (list ids d L : Buf (Elt F) ((V d (cV L) (jV L)).loc cc1_scratch0)) l : BitVec 32)).toNat
        = (rowNo (ids d (place (((oM L j).view.emb y) 0)))).val := by
    intro l hl
    rw [read_chunk, ep, show (l 0 : Fin 128) = y 0 from Fin.ext hl]
    exact (rowNo_val (hids d _)).symm
  show (tab d) ((tM).view.emb (gathers_S4096x128_S128x128.idx _ y)) = tab d (rc _ _)
  refine congrArg (tab d) (rc_ext ?_ ?_)
  · show 0 + 1 * (gathers_S4096x128_S128x128.idx _ y 0).val = (rowNo _).val
    rw [← key (S128.rowMajor.symm ((y 0 : Fin 128).cast rfl)) ?_]
    · simp only [Nat.zero_add, Nat.one_mul]; rfl
    · have h := congrArg Fin.val (S128.rowMajor.apply_symm_apply ((y 0 : Fin 128).cast rfl))
      exact (Shape.rowMajor_val_one _).symm.trans h
  · show 0 + 1 * (gathers_S4096x128_S128x128.idx _ y 1).val = _
    refine Eq.trans ?_ e1.symm
    rw [Nat.zero_add, Nat.one_mul]
    exact Shape.Gathers.idx_of_ne gathers_S4096x128_S128x128 _ y 1 (by decide)

/-! ### The loop -/

/-- The blocks of the result after `k` trips: those before `k` gathered, the others as they were. -/
def blocks (d : Dev nD) (w : Fin 32) (k : ℕ) : sProp 𝕄 :=
  bigSep Finset.univ fun j : Fin 30 => oBlk d (blk w j) (if j.val < k then rowsOf (tab d) (ids d) else out d)

omit [FloatOps F] in
/-- Block `j` taken out before trip `j`, as the task addresses it. -/
theorem blocks_take (j : Fin k1_t1_loop.trips) :
    blocks tab ids out d (wL L) j.val ⊢ (iprop(((oM L j).view.loc (V d (cV L) (jV L)) ↦[(oM L j).view.set]{fullShare} out d)
      ∗ bigSep (Finset.univ.erase (ch j)) fun i : Fin 30 => oBlk d (blk (wL L) i) (if i.val < j.val then rowsOf (tab d) (ids d) else out d)) : sProp 𝕄) := by
  unfold blocks
  rw [SparseCore.bigSep_erase' (Finset.mem_univ (ch j)), pts_oM, if_neg (show ¬ (ch j).val < j.val from Nat.lt_irrefl _)]

omit [FloatOps F] in
/-- Put back after it, holding the gathered rows. -/
theorem blocks_put (hids : InRows ids) (j : Fin k1_t1_loop.trips) :
    (iprop(((oM L j).view.loc (V d (cV L) (jV L)) ↦[(oM L j).view.set]{fullShare}
          ((oM L j).view.writes (Elt F) (out d) [⟨Rect.whole S128x128, gathered tab ids d L hids j⟩] : Buf (Elt F) (oLoc d)))
      ∗ bigSep (Finset.univ.erase (ch j)) fun i : Fin 30 => oBlk d (blk (wL L) i) (if i.val < j.val then rowsOf (tab d) (ids d) else out d)) : sProp 𝕄)
      ⊢ blocks tab ids out d (wL L) (j.val + 1) := by
  unfold blocks
  rw [show (oM L j).view.writes (Elt F) (out d) [⟨Rect.whole S128x128, gathered tab ids d L hids j⟩]
      = (oM L j).view.write (Elt F) (out d) (gathered tab ids d L hids j) Finset.univ
      from (View.write_univ_eq_writes_whole (oM L j).view (out d) [] (gathered tab ids d L hids j)).symm]
  rw [SparseCore.bigSep_erase' (Finset.mem_univ (ch j)), pts_oM, if_pos (show (ch j).val < j.val + 1 from Nat.lt_succ_self _)]
  rw [show (oLoc d ↦[oSet (blk (wL L) (ch j))]{fullShare} ((oM L j).view.write (Elt F) (out d) (gathered tab ids d L hids j) Finset.univ : Buf (Elt F) (oLoc d)) : sProp 𝕄)
      = oBlk d (blk (wL L) (ch j)) (rowsOf (tab d) (ids d)) from pointsTo_congr (block_value tab ids d L hids j (out d))]
  refine Entails.of_eq (congrArg (BI.sep _) (bigSep_congr fun i hi => ?_))
  have hne : i.val ≠ j.val := fun e => (Finset.mem_erase.mp hi).1 (Fin.ext e)
  by_cases h : i.val < j.val
  · rw [if_pos h, if_pos (Nat.lt_succ_of_lt h)]
  · rw [if_neg h, if_neg (fun h' => (Nat.lt_succ_iff_lt_or_eq.mp h').elim h hne)]

/-- The loop's invariant before trip `k`. -/
def inv (O : CellTallies nD τ sig (HIx 1)) (W : Waits sig (HIx 1)) (k : Nat) (_ : PUnit) : sProp 𝕄 :=
  iprop(Transfers.MayWaits (V d (cV L) (jV L)) (default : HIx 1) O
    ∗ ((tV).view.loc (V d (cV L) (jV L)) ↦{tq (wL L)} tab d)
    ∗ ((sV).view.loc (V d (cV L) (jV L)) ↦{fullShare} (list ids d L : Buf (Elt F) ((V d (cV L) (jV L)).loc cc1_scratch0)))
    ∗ (∃ f, (rV).view.loc (V d (cV L) (jV L)) ↦{fullShare} f)
    ∗ semVal (gCell d (cV L) (jV L)) 0 ∗ semVal (wCell d (cV L) (jV L)) 0
    ∗ blocks tab ids out d (wL L) k
    ∗ ∃ W', ⌜∀ p ∈ W', p ∈ W ∨ p.2 = none⌝ ∗ owes (V d (cV L) (jV L)) O W')

omit [FloatOps F] in
/-- A gather's rows credit together what its buffer does. -/
theorem gather_credit (h : S4096x128.Gathers 0 S128x128) :
    ∑ j, ((rV).slice (S128x128.rowRect h.axis' j) (S128x128.stride_rowRect h.axis' j)).view.dmaCredit = (rV).view.dmaCredit := by
  have hrow : ∀ j, ((rV).slice (S128x128.rowRect h.axis' j) (S128x128.stride_rowRect h.axis' j)).view.dmaCredit
      = ((rV).slice (S128x128.rowRect (0 : Fin 2) (0 : Fin 128)) (fun _ => rfl)).view.dmaCredit := fun _ => rfl
  rw [Finset.sum_congr rfl fun j _ => hrow j, Finset.sum_const, Finset.card_univ, Fintype.card_fin]
  show 128 * ((rV).slice (S128x128.rowRect (0 : Fin 2) (0 : Fin 128)) (fun _ => rfl)).view.dmaCredit = (rV).view.dmaCredit
  decide +kernel

set_option maxHeartbeats 4000000 in
/-- The task of tile `(L 0, L 1)`: it returns its list, its share of the table and its blocks, gathered. -/
theorem tile_body (hF : (K (F := F)).Facts) (hids : InRows ids) (O : CellTallies nD τ sig (HIx 1)) (W : Waits sig (HIx 1)) (hO : ∀ g, O g none = 0) :
    iprop(levAts (K (F := F)).L (K (F := F)).lev ∗ emp ∗ given tab ids out d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_gather_body L tV (Memref.isWhole_whole _) iV (Memref.isWhole_whole _) oV (Memref.isWhole_whole _)
            sV (Memref.isWhole_whole _) rV (Memref.isWhole_whole _) cc1_scratch2 cc1_scoped0 cc1_scoped1)
          fun _ => iprop(brought tab ids d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  have h0 : (bigSep Finset.univ fun j : Fin 30 => oBlk d (blk (wL L) j) (out d) : sProp 𝕄) = blocks tab ids out d (wL L) 0 := by
    unfold blocks; exact bigSep_congr fun j _ => by rw [if_neg (Nat.not_lt_zero _)]
  have h1 : (bigSep Finset.univ fun j : Fin 30 => oBlk d (blk (wL L) j) (rowsOf (tab d) (ids d)) : sProp 𝕄) = blocks tab ids out d (wL L) k1_t1_loop.trips := by
    unfold blocks; exact bigSep_congr fun j _ => by rw [if_pos (show j.val < k1_t1_loop.trips by rw [trips_eq]; exact j.isLt)]
  unfold given brought
  rw [h0, h1]
  simp only [cc1__sc_gather_body_eq_skeleton]; unfold cc1__sc_gather_body_skel
  rw [(K (F := F)).scopedBufs_V hF d (cV L) (jV L), SparseCore.Cfg.scopedSems0_V (Val := Elt F) d (cV L) (jV L), ownSems0_V, ownBufs_V]
  iintro ⟨#Hlv, -, ⟨Hi, Ht, Ho⟩, ⟨⟨%fs, Hs⟩, ⟨%fr, Hr⟩, Hbufs⟩, ⟨HsemG, HsemL, HsemW, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iM (F := F) d L _).symm) $$ Hi
  ihave Ht' := (Entails.of_eq (pts_tV (F := F) d L _ _).symm) $$ Ht
  ihave Hs' := (Entails.of_eq (pts_sV (F := F) d L _).symm) $$ Hs
  ihave Hr' := (Entails.of_eq (pts_rV (F := F) d L _).symm) $$ Hr
  sl_exec
  ihave Hs2 := (Entails.of_eq (show ((sV).view.loc (V d (cV L) (jV L)) ↦{fullShare} View.write (Elt F) (sV).view fs (tile_body.sl.dma0 ids d L) Finset.univ : sProp 𝕄)
      = ((sV).view.loc (V d (cV L) (jV L)) ↦{fullShare} (list ids d L : Buf (Elt F) ((V d (cV L) (jV L)).loc cc1_scratch0)))
      by rw [View.write_whole_univ]; rfl)) $$ Hs'
  sl_for (inv tab ids out d L O W) $$ [Hmw Ht' Hs2 Hr' HsemG HsemW Ho HO]
  case region =>
    intro k _
    unfold inv
    iintro ⟨#Hmw, Ht, Hs, ⟨%f, Hr⟩, HsemG, HsemW, Hob, %W', %hW', HO⟩
    ihave Ho := (blocks_take tab ids out d L k) $$ Hob
    icases Ho with ⟨Hok, Hor⟩
    ihave Hts := (pointsTo_split_subset (q := tq (wL L)) (f := tab d) (S := Finset.univ) (Finset.subset_univ (tM).view.set)).1 $$ Ht
    icases Hts with ⟨Hts, Htr⟩
    ihave Hss := (pointsTo_split_subset (ℓ := (sV).view.loc (V d (cV L) (jV L))) (q := fullShare) (f := (list ids d L : Buf (Elt F) ((V d (cV L) (jV L)).loc cc1_scratch0))) (S := Finset.univ) (Finset.subset_univ (sM k).view.set)).1 $$ Hs
    icases Hss with ⟨Hss, Hsr⟩
    have hrs : (rV).view.set = Finset.univ := View.set_whole _
    ihave Hr2 := (Entails.of_eq (show ((rV).view.loc (V d (cV L) (jV L)) ↦{fullShare} f : sProp 𝕄)
        = (rV).view.loc (V d (cV L) (jV L)) ↦[(rV).view.set]{fullShare} f by rw [hrs])) $$ Hr
    iapply (SparseCore.wp_indirectGatherLocal countersEmb 𝒱₀ (V d (cV L) (jV L)) none (hg := gathers_S4096x128_S128x128) (default : HIx 1)
        (rV).view.dmaCredit (gather_credit _) (by decide) (chunk_in ids d L hids k)) $$ [Hts Hr2 Hss HsemG]
    · isplitl [Hts]; · iexact Hts
      isplitl [Hr2]; · iexact Hr2
      isplitl [Hss]; · iexact Hss
      iexact HsemG
    iintro Hfl
    sl_exec
    iapply (Transfers.wp_waitLocalO countersEmb 𝒱₀ (V d (cV L) (jV L)) none (default : HIx 1) (rfl : (rV).view.dmaCredit = _)) $$ [Hfl HO]
    · isplitl [Hfl]; · iexact Hfl
      isplitl [HO]; · iexact HO
      iapply (Transfers.MayWaits.elim (SemLoc.dma cc1_scratch2.sem)) $$ Hmw
    iintro ⟨⟨Hr, Hts, Hss⟩, HsemG, HO⟩
    ihave Ht := (pointsTo_split_subset (q := tq (wL L)) (f := tab d) (S := Finset.univ) (Finset.subset_univ (tM).view.set)).2 $$ [Hts Htr]; · isplitl [Hts] <;> iassumption
    ihave Hs := (pointsTo_split_subset (ℓ := (sV).view.loc (V d (cV L) (jV L))) (q := fullShare) (f := (list ids d L : Buf (Elt F) ((V d (cV L) (jV L)).loc cc1_scratch0))) (S := Finset.univ) (Finset.subset_univ (sM k).view.set)).2 $$ [Hss Hsr]; · isplitl [Hss] <;> iassumption
    ihave Hr3 := (Entails.of_eq (show ((rV).view.loc (V d (cV L) (jV L)) ↦[(rV).view.set]{fullShare} _ : sProp 𝕄)
        = (rV).view.loc (V d (cV L) (jV L)) ↦{fullShare} (gathered tab ids d L hids k) by rw [hrs, View.write_whole_univ])) $$ Hr
    sl_exec (disch := exact View.amount_pos _ _ (show 0 < S128x128.numel by decide))
    sl_step
    isplitl [Hmw]; · iexact Hmw
    isplitl [Ht]; · iexact Ht
    isplitl [Hs]; · iexact Hs
    isplitl [Hr3]; · iexists _; iexact Hr3
    isplitl [HsemG]; · iexact HsemG
    isplitl [HsemW]; · iexact HsemW
    isplitl [Hok Hor]
    · iapply (blocks_put tab ids out d L hids k)
      isplitl [Hok]; · iexact Hok
      iexact Hor
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact hW' p hp
  · unfold inv
    isplitl [Hmw]; · iexact Hmw
    isplitl [Ht']; · iexact Ht'
    isplitl [Hs2]; · iexact Hs2
    isplitl [Hr']; · iexists _; iexact Hr'
    isplitl [HsemG]; · iexact HsemG
    isplitl [HsemW]; · iexact HsemW
    isplitl [Ho]; · iexact Ho
    iexists _; isplitr
    swap; · iexact HO
    ipureintro; intro p hp
    rcases Finset.mem_insert.mp hp with hp | hp; · exact .inr (hp ▸ rfl)
    exact .inl hp
  iintro %_ HI
  unfold inv
  icases HI with ⟨-, Ht, Hs, ⟨%f, Hr⟩, HsemG, HsemW, Hob, %W', %hW', HO⟩
  sl_step
  isplitl [Hi' Ht Hob]
  · isplitl [Hi']; · iapply (Entails.of_eq (pts_iM (F := F) d L _)); iexact Hi'
    isplitl [Ht]; · iexact Ht
    iexact Hob
  isplitl [Hs Hr Hbufs]
  · isplitl [Hs]; · iexists _; iexact Hs
    isplitl [Hr]; · iexists _; iexact Hr
    iexact Hbufs
  isplitl [HsemG HsemL HsemW Hsems]
  · isplitl [HsemG]; · iexact HsemG
    isplitl [HsemL]; · iexact HsemL
    isplitl [HsemW]; · iexact HsemW
    iexact Hsems
  iexists W'; isplitr
  · ipureintro; exact hW'
  · iexact HO

end Tile

/-! ## The task's obligation, and the parts of the arrays -/

/-- The number of the tile on SparseCore `c`, subcore `i`. -/
def wid (c : Fin 2) (i : Fin 16) : Fin 32 := ⟨2 * i.val + c.val, by omega⟩

/-- The one call hands each tile what it is `given` and takes back what it `brought`; a SparseCore's share of the call is
    its tiles' parts. -/
def P : (K (F := F)).Pay (nD := nD) (Val := Elt F) (Name := ℕ) (U := UU) where
  st := fun q d c => match q with | 0 => bigSep Finset.univ fun i : Fin ((K (F := F)).nSub 0) => given tab ids out d (wid (Fin.cast nCore_zero c) (Fin.cast nSub_zero i))
  dn := fun q d c => match q with | 0 => bigSep Finset.univ fun i : Fin ((K (F := F)).nSub 0) => brought tab ids d (wid (Fin.cast nCore_zero c) (Fin.cast nSub_zero i))
  go := fun q d c i => match q with | 0 => given tab ids out d (wid (Fin.cast nCore_zero c) (Fin.cast nSub_zero i))
  td := fun q d c i => match q with | 0 => brought tab ids d (wid (Fin.cast nCore_zero c) (Fin.cast nSub_zero i))
  x := fun _ _ => iprop(emp)

instance P_storable : (P tab ids out).IsStorable where
  st q d c := match q with
    | 0 => (inferInstance : BI.Storable (upEmb : UEmb _ 𝕄)
      (bigSep Finset.univ fun i : Fin ((K (F := F)).nSub 0) => given tab ids out d (wid (Fin.cast nCore_zero c) (Fin.cast nSub_zero i))))
  dn q d c := match q with
    | 0 => (inferInstance : BI.Storable (upEmb : UEmb _ 𝕄)
      (bigSep Finset.univ fun i : Fin ((K (F := F)).nSub 0) => brought tab ids d (wid (Fin.cast nCore_zero c) (Fin.cast nSub_zero i))))
  go q d c i := match q with
    | 0 => given_storable tab ids out d (wid (Fin.cast nCore_zero c) (Fin.cast nSub_zero i))
  td q d c i := match q with
    | 0 => brought_storable tab ids d (wid (Fin.cast nCore_zero c) (Fin.cast nSub_zero i))

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ⟨⟩
      = SparseCore.onTile hcore1 hsub1 (fun c s => cc1__sc_gather_body (coordsV c s)
          tV (Memref.isWhole_whole _) iV (Memref.isWhole_whole _) oV (Memref.isWhole_whole _)
          sV (Memref.isWhole_whole _) rV (Memref.isWhole_whole _) cc1_scratch2 cc1_scoped0 cc1_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hids : InRows ids) : (K (F := F)).TileObl (D (F := F)) 𝒱 (P tab ids out) v₀ 0 := by
  intro d c i O W hO _ _
  simp only [show (P tab ids out).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ⟨⟩)) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body tab ids out d (coordsV ⟨_, hci.1⟩ ⟨_, hci.2⟩) hF hids O W hO).trans (wp_mono frame _ _ fun _ => obl_post)

/-- A SparseCore's share of the call is its tiles' parts, both ways. -/
theorem vecSplit : (K (F := F)).VecSplit' (P tab ids out) 0 := by
  intro d c
  show (bigSep Finset.univ fun i : Fin ((K (F := F)).nSub 0) => given tab ids out d (wid (Fin.cast nCore_zero c) (Fin.cast nSub_zero i)))
    ⊢ |={Set.univ}=> iprop(
      (bigSep Finset.univ fun i : Fin ((K (F := F)).nSub 0) => given tab ids out d (wid (Fin.cast nCore_zero c) (Fin.cast nSub_zero i)))
      ∗ ((bigSep Finset.univ fun i : Fin ((K (F := F)).nSub 0) => brought tab ids d (wid (Fin.cast nCore_zero c) (Fin.cast nSub_zero i)))
          -∗ bigSep Finset.univ fun i : Fin ((K (F := F)).nSub 0) => brought tab ids d (wid (Fin.cast nCore_zero c) (Fin.cast nSub_zero i))))
  iintro H; imodintro
  isplitl [H]; · iexact H
  iintro H; iexact H

omit [FloatOps F] in
theorem iSet_eq (w : Fin 32) : iSet w = (ipart w).set := by
  show ((View.whole (main_v6_scv : Ref sig .scVector)).slice (ipart w)).set = _
  rw [View.set_slice]; exact Finset.map_refl
omit [FloatOps F] in
theorem oSet_eq (b : Fin 960) : oSet b = (opart b).set := by
  show ((View.whole (main_v7_scv : Ref sig .scVector)).slice (opart b)).set = _
  rw [View.set_slice]; exact Finset.map_refl

omit [FloatOps F] in
/-- The index lists are the tiles' lists. -/
theorem lists_split (d : Dev nD) (f : Buf (Elt F) (iLoc d)) :
    (iLoc d ↦{fullShare} f : sProp 𝕄) = bigSep Finset.univ fun w : Fin 32 => iLoc d ↦[iSet w]{fullShare} f := by
  rw [← pointsTo_biUnion Finset.univ (ℓ := iLoc d) iSet fun i _ j _ h => by rw [iSet_eq, iSet_eq]; exact Rect.part_disjoint idiv h,
    (Finset.biUnion_congr rfl fun i _ => iSet_eq i).trans (Rect.biUnion_part idiv)]; try rfl

omit [FloatOps F] in
/-- The result is the tiles' blocks. -/
theorem blocks_split (d : Dev nD) (f : Buf (Elt F) (oLoc d)) :
    (oLoc d ↦{fullShare} f : sProp 𝕄) = bigSep Finset.univ fun w : Fin 32 => bigSep Finset.univ fun j : Fin 30 => oBlk d (blk w j) f := by
  have e : (oLoc d ↦{fullShare} f : sProp 𝕄) = bigSep Finset.univ fun b : Fin 960 => oLoc d ↦[oSet b]{fullShare} f := by
    rw [← pointsTo_biUnion Finset.univ (ℓ := oLoc d) oSet fun i _ j _ h => by rw [oSet_eq, oSet_eq]; exact Rect.part_disjoint odiv h,
      (Finset.biUnion_congr rfl fun i _ => oSet_eq i).trans (Rect.biUnion_part odiv)]; try rfl
  rw [e, bigSep_univ_equiv (finProdFinEquiv (m := 32) (n := 30)) fun b : Fin (32 * 30) => (oLoc d ↦[oSet b]{fullShare} f : sProp 𝕄), bigSep_univ_prod]
  refine bigSep_congr fun w _ => bigSep_congr fun j _ => ?_
  rw [show finProdFinEquiv (m := 32) (n := 30) (w, j) = blk w j from Fin.ext (by simp [finProdFinEquiv, blk]; omega)]

omit [FloatOps F] in
/-- The table is the tiles' shares. -/
theorem table_split (d : Dev nD) (f : Buf (Elt F) (tLoc d)) :
    (tLoc d ↦{fullShare} f : sProp 𝕄) = bigSep Finset.univ fun w : Fin 32 => tLoc d ↦{tq w} f :=
  pointsTo_piecesOf Finset.univ f (by decide) fullShare

omit [FloatOps F] in
/-- Over all the tiles is over the SparseCores and their subcores. -/
theorem tiles_split (Φ : Fin 32 → sProp 𝕄) :
    bigSep Finset.univ Φ = bigSep Finset.univ fun c : Fin ((K (F := F)).nCore 0) =>
      bigSep Finset.univ fun i : Fin ((K (F := F)).nSub 0) => Φ (wid (Fin.cast nCore_zero c) (Fin.cast nSub_zero i)) := by
  rw [bigSep_univ_equiv (finProdFinEquiv (m := 16) (n := 2)) fun b : Fin (16 * 2) => Φ b, bigSep_univ_prod, bigSep_univ_comm]
  refine bigSep_congr fun c _ => bigSep_congr fun i _ => ?_
  exact congrArg Φ (Fin.ext (by simp [finProdFinEquiv, wid]; omega))

omit [FloatOps F] in
/-- What the call takes, over the SparseCores, is the three arrays. -/
theorem call_takes (d : Dev nD) :
    (bigSep Finset.univ fun c : Fin ((K (F := F)).nCore 0) => (P tab ids out).st 0 d c)
      = (iprop((iLoc d ↦{fullShare} ids d) ∗ (tLoc d ↦{fullShare} tab d) ∗ oLoc d ↦{fullShare} out d) : sProp 𝕄) := by
  show (bigSep Finset.univ fun c : Fin ((K (F := F)).nCore 0) => bigSep Finset.univ fun i : Fin ((K (F := F)).nSub 0) =>
    given tab ids out d (wid (Fin.cast nCore_zero c) (Fin.cast nSub_zero i))) = _
  rw [← tiles_split fun w => given tab ids out d w]
  unfold given
  rw [bigSep_sep', bigSep_sep', ← table_split, ← lists_split, ← blocks_split]

omit [FloatOps F] in
/-- What it brings back: the lists and the table as they were, the result at the gathered rows. -/
theorem call_brings (d : Dev nD) :
    (bigSep Finset.univ fun c : Fin ((K (F := F)).nCore 0) => (P tab ids out).dn 0 d c)
      = (iprop((iLoc d ↦{fullShare} ids d) ∗ (tLoc d ↦{fullShare} tab d) ∗ oLoc d ↦{fullShare} (rowsOf (tab d) (ids d) : Buf (Elt F) (oLoc d))) : sProp 𝕄) := by
  show (bigSep Finset.univ fun c : Fin ((K (F := F)).nCore 0) => bigSep Finset.univ fun i : Fin ((K (F := F)).nSub 0) =>
    brought tab ids d (wid (Fin.cast nCore_zero c) (Fin.cast nSub_zero i))) = _
  rw [← tiles_split fun w => brought tab ids d w]
  unfold brought
  rw [bigSep_sep', bigSep_sep', ← table_split, ← lists_split, ← blocks_split]

end Cert.Proof.KernelTile

end
-- ==== Proof.KernelRegions.lean ====
/-
  The two TensorCore calls as regions of @main: each entered with every unscoped buffer held at a valuation and left with
  its result arrays at what its write-backs leave, the core owing throughout what it owes the SparseCores.
-/
module

public import proofs.«01_k».proof.Proof.KernelKnn
public import proofs.«01_k».proof.Proof.KernelMlp
public import proofs.«01_k».proof.Proof.KernelTile
public import Idealize.ShloMosaic.Lib.Pipeline.RegionsLoop
public import Idealize.ShloMosaic.Lib.Pipeline.Frame

@[expose] public section

noncomputable section

namespace Cert.Proof.KernelRegions

open Cert.KernelIdeal Cert.KernelIdeal.Gen Cert.Proof.KernelBase Cert.Proof.KernelTile
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig (HIx 1) (Elt F) ℕ UU ℕ

abbrev adm : (p : Fin 2) → (pcfgs (F := F) p).Adm := fun p => (cfgs p).toPCfg_adm

variable (V : Dev nD → Valuation τ sig (Elt F)) (O : Dev nD → CellTallies nD τ sig (HIx 1)) (b : Dev nD → ℕ)

/-- The waits recorded at or below a level. -/
def below (c : Dev nD) : Set (SemLoc sig × HIx 1) := {p | (K (F := F)).lev ((c : Thread nD τ), p.1) p.2 ≤ b c}

/-- Both calls' proof data at a valuation. -/
def pdats : (p : Fin 2) → (c : Dev nD) → Dat τ (Elt F) (HIx 1) ℕ UU ℕ (Pipeline.pin (pcfgs (F := F)) adm p) c
  | ⟨0, _⟩ => fun c => KernelKnn.dat V O (below (F := F) b) c
  | ⟨1, _⟩ => fun c => KernelMlp.dat V O (below (F := F) b) c

/-- What the core holds between @main's steps: every unscoped buffer, and its `owes`, its waits recorded at or below a level. -/
def state (W : Dev nD → Valuation τ sig (Elt F)) (c : Dev nD) : sProp 𝕄 :=
  iprop(StableHlo.held (c : Thread nD τ) (Pipeline.ucRefs τ sig) (W c)
    ∗ ∃ Ws, ⌜(K (F := F)).WBelow (c : Thread nD τ) Ws (b c)⌝ ∗ owes (c : Thread nD τ) (O c) Ws)

variable (Vp : Dev nD → Valuation τ sig (Elt F))

set_option backward.isDefEq.respectTransparency.types false in
/-- The neighbours and the projections. -/
def reg0 (hO : ∀ c g, O c g none = 0)
    (h4 : ∀ c, Vp c (Proc.devRef .tc main_v4_0) = (KernelKnn.dat V O (below (F := F) b) c).arrAt 4 cfg0.N) (h5 : ∀ c, Vp c (Proc.devRef .tc main_v4_1) = (KernelKnn.dat V O (below (F := F) b) c).arrAt 5 cfg0.N) (h6 : ∀ c, Vp c (Proc.devRef .tc main_v4_2) = (KernelKnn.dat V O (below (F := F) b) c).arrAt 6 cfg0.N)
    (hne : ∀ c (b : Ref sig .tc), b ≠ main_v4_0 → b ≠ main_v4_1 → b ≠ main_v4_2 → Vp c (Proc.devRef .tc b) = V c (Proc.devRef .tc b)) :
    Pipeline.RegionSeg (pcfgs (F := F)) adm (pdats V O b) (none : HIx 1) (defs₀ (F := F)) 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (KernelKnn.body_obligation V O (below (F := F) b) c).loose
  hwaits c := Pipeline.cellsWaits_intro _ (pdats V O b) _ 0 c fun w s t => (K (F := F)).mayWait_none _ (hO c)
  pre := state O b V
  post := state O b Vp
  X _ := BI.emp
  Y _ := BI.emp
  Z c := Pipeline.unscopedRest (Ix := HIx 1) (Name := ℕ) (U := UU) (Lvl := ℕ) spec0 c fun r => V c (Proc.devRef .tc r)
  hentry c := by
    rw [Pipeline.ownSems0_none]
    have hsplit := Pipeline.arrays_of_unscopedBufs (p := 0) (pcfgs (F := F)) adm (pdats V O b) launch0.win launch0.arr_whole c
      ((pdats V O b 0 c).share_full fun _ => rfl) (fun r => V c (Proc.devRef .tc r)) fun _ => rfl
    unfold state
    rw [← Pipeline.unscopedBufs_held]
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V O b 0 c).Φ 0 = KernelKnn.Φc c from rfl]
    iintro ⟨-, -, Hr⟩; iexact Hr
  hout c := by
    rw [Pipeline.ownSems0_none, show (pdats V O b 0 c).Φ (Fin.last _) = KernelKnn.Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats V O b) ((pdats V O b 0 c).share_full fun _ => rfl) (fun r => V c (Proc.devRef .tc r)) (fun r => Vp c (Proc.devRef .tc r)) ((pdats V O b 0 c).arrAt · cfg0.N)
      (fun w => by
        fin_cases w
        · exact ((pdats V O b 0 c).arrAt_in 0 rfl _).trans (hne c main_arg0 (by decide) (by decide) (by decide)).symm
        · exact ((pdats V O b 0 c).arrAt_in 1 rfl _).trans (hne c main_v2 (by decide) (by decide) (by decide)).symm
        · exact ((pdats V O b 0 c).arrAt_in 2 rfl _).trans (hne c main_v0 (by decide) (by decide) (by decide)).symm
        · exact ((pdats V O b 0 c).arrAt_in 3 rfl _).trans (hne c main_v3 (by decide) (by decide) (by decide)).symm
        · exact (h4 c).symm
        · exact (h5 c).symm
        · exact (h6 c).symm)
      (fun r hb => hne c r (fun h => hb (h ▸ Finset.mem_image.mpr ⟨4, Finset.mem_univ _, rfl⟩)) (fun h => hb (h ▸ Finset.mem_image.mpr ⟨5, Finset.mem_univ _, rfl⟩)) (fun h => hb (h ▸ Finset.mem_image.mpr ⟨6, Finset.mem_univ _, rfl⟩)))
    unfold state
    rw [← Pipeline.unscopedBufs_held]
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | h
      · exact h
      · obtain ⟨w, s, rfl⟩ := h
        rw [SparseCore.Cfg.lev_none]; exact Nat.zero_le _
    iexact HO

set_option backward.isDefEq.respectTransparency.types false in
/-- The layers and the maximum. -/
def reg1 (hO : ∀ c g, O c g none = 0)
    (h6 : ∀ c, Vp c (Proc.devRef .tc main_v10) = (KernelMlp.dat V O (below (F := F) b) c).arrAt 6 cfg2.N)
    (hne : ∀ c (b : Ref sig .tc), b ≠ main_v10 → Vp c (Proc.devRef .tc b) = V c (Proc.devRef .tc b)) :
    Pipeline.RegionSeg (pcfgs (F := F)) adm (pdats V O b) (none : HIx 1) (defs₀ (F := F)) 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (KernelMlp.body_obligation V O (below (F := F) b) c).loose
  hwaits c := Pipeline.cellsWaits_intro _ (pdats V O b) _ 1 c fun w s t => (K (F := F)).mayWait_none _ (hO c)
  pre := state O b V
  post := state O b Vp
  X _ := BI.emp
  Y _ := BI.emp
  Z c := Pipeline.unscopedRest (Ix := HIx 1) (Name := ℕ) (U := UU) (Lvl := ℕ) spec2 c fun r => V c (Proc.devRef .tc r)
  hentry c := by
    rw [Pipeline.ownSems0_none]
    have hsplit := Pipeline.arrays_of_unscopedBufs (p := 1) (pcfgs (F := F)) adm (pdats V O b) launch2.win launch2.arr_whole c
      ((pdats V O b 1 c).share_full fun _ => rfl) (fun r => V c (Proc.devRef .tc r)) fun _ => rfl
    unfold state
    rw [← Pipeline.unscopedBufs_held]
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V O b 1 c).Φ 0 = KernelMlp.Φc c from rfl]
    iintro ⟨-, -, Hr⟩; iexact Hr
  hout c := by
    rw [Pipeline.ownSems0_none, show (pdats V O b 1 c).Φ (Fin.last _) = KernelMlp.Φc c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch2.win launch2.arr_whole c
      (pdats V O b) ((pdats V O b 1 c).share_full fun _ => rfl) (fun r => V c (Proc.devRef .tc r)) (fun r => Vp c (Proc.devRef .tc r)) ((pdats V O b 1 c).arrAt · cfg2.N)
      (fun w => by
        fin_cases w
        · exact ((pdats V O b 1 c).arrAt_in 0 rfl _).trans (hne c main_v7 (by decide)).symm
        · exact ((pdats V O b 1 c).arrAt_in 1 rfl _).trans (hne c main_v4_1 (by decide)).symm
        · exact ((pdats V O b 1 c).arrAt_in 2 rfl _).trans (hne c main_arg4 (by decide)).symm
        · exact ((pdats V O b 1 c).arrAt_in 3 rfl _).trans (hne c main_v8 (by decide)).symm
        · exact ((pdats V O b 1 c).arrAt_in 4 rfl _).trans (hne c main_arg6 (by decide)).symm
        · exact ((pdats V O b 1 c).arrAt_in 5 rfl _).trans (hne c main_v9 (by decide)).symm
        · exact (h6 c).symm)
      (fun r hb => hne c r (fun h => hb (h ▸ Finset.mem_image.mpr ⟨6, Finset.mem_univ _, rfl⟩)))
    unfold state
    rw [← Pipeline.unscopedBufs_held]
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | h
      · exact h
      · obtain ⟨w, s, rfl⟩ := h
        rw [SparseCore.Cfg.lev_none]; exact Nat.zero_le _
    iexact HO

end Cert.Proof.KernelRegions

end
-- ==== Proof.KernelRun.lean ====
/-
  The whole kernel's run: the host's slices and reshapes, the two TensorCore calls and the SparseCore call in @main's order,
  every array's contents named along the way as a function of the launch memory.
-/
module

public import proofs.«01_k».proof.Proof.KernelRegions

@[expose] public section

noncomputable section

namespace Cert.Proof.KernelRun

open Cert.KernelIdeal Cert.KernelIdeal.Gen Cert.Proof.KernelBase Cert.Proof.KernelTile Cert.Proof.KernelRegions
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

/-! ## @main's host operations -/

abbrev opB : HloOp τ sig (Elt F) := StableHlo.unary main_arg2 main_v0 ((extractStridedSlice S64x64 ![64, 0] · slices_S128x64_S64x64_64_0) : (⟨S128x64, .f32⟩ : BufTy).Contents (Elt F) → (⟨S64x64, .f32⟩ : BufTy).Contents (Elt F))
abbrev opT : HloOp τ sig (Elt F) := StableHlo.unary main_arg2 main_v1 ((extractStridedSlice S64x64 ![0, 0] · slices_S128x64_S64x64_0_0) : (⟨S128x64, .f32⟩ : BufTy).Contents (Elt F) → (⟨S64x64, .f32⟩ : BufTy).Contents (Elt F))
abbrev opS : HloOp τ sig (Elt F) := StableHlo.binary main_v1 main_v0 main_v2 (addf : (⟨S64x64, .f32⟩ : BufTy).Contents (Elt F) → (⟨S64x64, .f32⟩ : BufTy).Contents (Elt F) → (⟨S64x64, .f32⟩ : BufTy).Contents (Elt F))
abbrev opR1 : HloOp τ sig (Elt F) := StableHlo.reshape main_arg3 main_v3 (rfl : (.f32 : EltTy) = .f32) shapeCasts_S64_S1x64
abbrev opCut : HloOp τ sig (Elt F) := StableHlo.unary main_v4_0 main_v5 ((extractStridedSlice S4096x30 ![0, 0] · slices_S4096x32_S4096x30_0_0) : (⟨S4096x32, .i32⟩ : BufTy).Contents (Elt F) → (⟨S4096x30, .i32⟩ : BufTy).Contents (Elt F))
abbrev opLists : HloOp τ sig (Elt F) := StableHlo.reshape main_v5 main_v6 (rfl : (.i32 : EltTy) = .i32) shapeCasts_S4096x30_S32x30x128
abbrev opR2 : HloOp τ sig (Elt F) := StableHlo.reshape main_arg5 main_v8 (rfl : (.f32 : EltTy) = .f32) shapeCasts_S64_S1x64
abbrev opR3 : HloOp τ sig (Elt F) := StableHlo.reshape main_arg7 main_v9 (rfl : (.f32 : EltTy) = .f32) shapeCasts_S64_S1x64

theorem opB_sub : (opB (F := F)).bufs ⊆ Pipeline.ucRefs τ sig := Pipeline.sub_ucRefs _ (StableHlo.unary_bufs_sub ..)
theorem opT_sub : (opT (F := F)).bufs ⊆ Pipeline.ucRefs τ sig := Pipeline.sub_ucRefs _ (StableHlo.unary_bufs_sub ..)
theorem opS_sub : (opS (F := F)).bufs ⊆ Pipeline.ucRefs τ sig := Pipeline.sub_ucRefs _ (StableHlo.binary_bufs_sub ..)
theorem opR1_sub : (opR1 (F := F)).bufs ⊆ Pipeline.ucRefs τ sig := Pipeline.sub_ucRefs _ (StableHlo.reshape_bufs_sub ..)
theorem opCut_sub : (opCut (F := F)).bufs ⊆ Pipeline.ucRefs τ sig := Pipeline.sub_ucRefs _ (StableHlo.unary_bufs_sub ..)
theorem opLists_sub : (opLists (F := F)).bufs ⊆ Pipeline.ucRefs τ sig := Pipeline.sub_ucRefs _ (StableHlo.reshape_bufs_sub ..)
theorem opR2_sub : (opR2 (F := F)).bufs ⊆ Pipeline.ucRefs τ sig := Pipeline.sub_ucRefs _ (StableHlo.reshape_bufs_sub ..)
theorem opR3_sub : (opR3 (F := F)).bufs ⊆ Pipeline.ucRefs τ sig := Pipeline.sub_ucRefs _ (StableHlo.reshape_bufs_sub ..)

/-! ## The arrays' contents along @main -/

variable (m : (ℓ : Loc nD τ sig) → Buf (Elt F) ℓ) (ρ : Dev nD → PrngReg)

abbrev r' (b : Ref sig .tc) : DevRef τ sig := Proc.devRef .tc b

/-- What the TensorCore owes the SparseCores before call `n`, and the level its waits are recorded at or below. -/
abbrev On (n : ℕ) (d : Dev nD) : CellTallies nD τ sig (HIx 1) := (K (F := F)).Otc d n
abbrev bn (n : ℕ) (_ : Dev nD) : ℕ := 8 * n

/-- At the launch; before the first call; after it; before the SparseCore call; after it; before the last call; after it. -/
def V0 (d : Dev nD) : Valuation τ sig (Elt F) := fun b => m (d, b)
def V1 (d : Dev nD) : Valuation τ sig (Elt F) := opR1.result (opS.result (opT.result (opB.result (V0 m d))))
abbrev knn (d : Dev nD) := KernelKnn.dat (V1 m) (On (F := F) 0) (below (F := F) (bn 0)) d
def V2 (d : Dev nD) : Valuation τ sig (Elt F) :=
  Function.update (Function.update (Function.update (V1 m d) (r' main_v4_0) ((knn m d).arrAt 4 cfg0.N)) (r' main_v4_1) ((knn m d).arrAt 5 cfg0.N))
    (r' main_v4_2) ((knn m d).arrAt 6 cfg0.N)
def V3 (d : Dev nD) : Valuation τ sig (Elt F) := opLists.result (opCut.result (V2 m d))
abbrev tabW (d : Dev nD) : Buf (Elt F) (tLoc d) := V3 m d (r' main_v4_2)
abbrev idsW (d : Dev nD) : Buf (Elt F) (iLoc d) := V3 m d (r' main_v6)
abbrev outW (d : Dev nD) : Buf (Elt F) (oLoc d) := V3 m d (r' main_v7)
def V4 (d : Dev nD) : Valuation τ sig (Elt F) := Function.update (V3 m d) (r' main_v7) (rowsOf (tabW m d) (idsW m d))
def V5 (d : Dev nD) : Valuation τ sig (Elt F) := opR3.result (opR2.result (V4 m d))
abbrev mlp (d : Dev nD) := KernelMlp.dat (V5 m) (On (F := F) 1) (below (F := F) (bn 1)) d
def V6 (d : Dev nD) : Valuation τ sig (Elt F) := Function.update (V5 m d) (r' main_v10) ((mlp m d).arrAt 6 cfg2.N)

theorem On_none (n : ℕ) (d : Dev nD) (g : GSem nD τ sig) : On (F := F) n d g none = 0 := by
  unfold On SparseCore.Cfg.Otc
  simp only [Finset.sum_apply, Finsupp.finset_sum_apply]
  refine Finset.sum_eq_zero fun q _ => ?_
  split
  · simp only [Finset.sum_apply, Finsupp.finset_sum_apply]
    exact Finset.sum_eq_zero fun c _ => by rw [tallyAt_apply, if_neg fun e => nomatch e.2]
  · rfl

def regKnn := reg0 (V1 m) (On (F := F) 0) (bn 0) (V2 m) (On_none 0)
  (fun c => by unfold V2; rw [Function.update_of_ne (by decide), Function.update_of_ne (by decide), Function.update_self])
  (fun c => by unfold V2; rw [Function.update_of_ne (by decide), Function.update_self])
  (fun c => by unfold V2; rw [Function.update_self])
  (fun c b h0 h1 h2 => by
    unfold V2
    rw [Function.update_of_ne fun e => h2 (Proc.devRef_injective _ e), Function.update_of_ne fun e => h1 (Proc.devRef_injective _ e),
      Function.update_of_ne fun e => h0 (Proc.devRef_injective _ e)])
def regMlp := reg1 (V5 m) (On (F := F) 1) (bn 1) (V6 m) (On_none 1)
  (fun c => by unfold V6; rw [Function.update_self])
  (fun c b h => by unfold V6; rw [Function.update_of_ne fun e => h (Proc.devRef_injective _ e)])

/-! ## The SparseCore call's arrays out of the held buffers -/

abbrev callRefs : Finset (DevRef τ sig) := {r' main_v6, r' main_v4_2, r' main_v7}

theorem held_call (d : Dev nD) (W : Valuation τ sig (Elt F)) :
    (StableHlo.held (T d) (Pipeline.ucRefs τ sig) W : sProp 𝕄)
      = iprop(((iLoc d ↦{fullShare} W (r' main_v6)) ∗ (tLoc d ↦{fullShare} W (r' main_v4_2)) ∗ oLoc d ↦{fullShare} W (r' main_v7))
          ∗ StableHlo.held (T d) (Pipeline.ucRefs τ sig \ callRefs) W) := by
  unfold StableHlo.held
  rw [SparseCore.bigSep_sdiff_split' (show callRefs ⊆ Pipeline.ucRefs τ sig by decide), SparseCore.bigSep_insert' (by decide),
    SparseCore.bigSep_insert' (by decide), bigSep_singleton]

theorem held_rest (d : Dev nD) : (StableHlo.held (T d) (Pipeline.ucRefs τ sig \ callRefs) (V3 m d) : sProp 𝕄)
    = StableHlo.held (T d) (Pipeline.ucRefs τ sig \ callRefs) (V4 m d) := by
  unfold StableHlo.held V4
  refine bigSep_congr fun b hb => ?_
  rw [Function.update_of_ne fun e => (Finset.mem_sdiff.mp hb).2 (by rw [e]; decide)]

theorem V4_v6 (d : Dev nD) : V4 m d (r' main_v6) = idsW m d := by unfold V4; rw [Function.update_of_ne (by decide)]
theorem V4_v4_2 (d : Dev nD) : V4 m d (r' main_v4_2) = tabW m d := by unfold V4; rw [Function.update_of_ne (by decide)]
theorem V4_v7 (d : Dev nD) : V4 m d (r' main_v7) = rowsOf (tabW m d) (idsW m d) := by unfold V4; rw [Function.update_self]

/-! ## @main -/

local notation "PP" => Cert.Proof.KernelTile.P (tabW m) (idsW m) (outW m)

/-- The pipelines' ghost state a core starts with. -/
abbrev G (d : Dev nD) : sProp 𝕄 :=
  iprop((bigSep Finset.univ fun p : Fin 2 => Pipeline.cellsGhost (Pipeline.pin (pcfgs (F := F)) adm) EP p d)
    ∗ bigSep Finset.univ fun p : Fin 2 => Pipeline.toksInit (Pipeline.pin (pcfgs (F := F)) adm) EP p d)

theorem pin_inj : Function.Injective (Pipeline.cellOf (nD := nD) (τ := τ) (Pipeline.pin (pcfgs (F := F)) adm)) := cellOf_inj

/-- What @main ends with. -/
abbrev fin (d : Dev nD) : sProp 𝕄 := StableHlo.held (T d) (Pipeline.ucRefs τ sig) (V6 m d)

theorem two (Φ : Fin 2 → sProp 𝕄) : bigSep Finset.univ Φ = iprop(Φ 0 ∗ Φ 1) := by
  rw [show (Finset.univ : Finset (Fin 2)) = {0, 1} by decide, SparseCore.bigSep_insert' (by decide), bigSep_singleton]

theorem regKnn_pre (d : Dev nD) : (regKnn m).pre d = iprop(StableHlo.held (T d) (Pipeline.ucRefs τ sig) (V1 m d)
    ∗ ∃ Ws, ⌜(K (F := F)).WBelow (T d) Ws (bn 0 d)⌝ ∗ owes (T d) (On (F := F) 0 d) Ws) := rfl
theorem regKnn_post (d : Dev nD) : (regKnn m).post d = iprop(StableHlo.held (T d) (Pipeline.ucRefs τ sig) (V2 m d)
    ∗ ∃ Ws, ⌜(K (F := F)).WBelow (T d) Ws (bn 0 d)⌝ ∗ owes (T d) (On (F := F) 0 d) Ws) := rfl
theorem regMlp_pre (d : Dev nD) : (regMlp m).pre d = iprop(StableHlo.held (T d) (Pipeline.ucRefs τ sig) (V5 m d)
    ∗ ∃ Ws, ⌜(K (F := F)).WBelow (T d) Ws (bn 1 d)⌝ ∗ owes (T d) (On (F := F) 1 d) Ws) := rfl
theorem regMlp_post (d : Dev nD) : (regMlp m).post d = iprop(StableHlo.held (T d) (Pipeline.ucRefs τ sig) (V6 m d)
    ∗ ∃ Ws, ⌜(K (F := F)).WBelow (T d) Ws (bn 1 d)⌝ ∗ owes (T d) (On (F := F) 1 d) Ws) := rfl

theorem all_held (d : Dev nD) : (unscopedBufs d (fun b => m ((SparseCore.T d : Thread nD τ).loc b)) : sProp 𝕄) = StableHlo.held (T d) (Pipeline.ucRefs τ sig) (V0 m d) :=
  Pipeline.unscopedBufs_held (Ix := HIx 1) (Name := ℕ) (U := UU) (Lvl := ℕ) d (V0 m d)

theorem held_after (d : Dev nD) :
    (iprop(((iLoc d ↦{fullShare} idsW m d) ∗ (tLoc d ↦{fullShare} tabW m d) ∗ oLoc d ↦{fullShare} (rowsOf (tabW m d) (idsW m d) : Buf (Elt F) (oLoc d)))
        ∗ StableHlo.held (T d) (Pipeline.ucRefs τ sig \ callRefs) (V4 m d)) : sProp 𝕄)
      = StableHlo.held (T d) (Pipeline.ucRefs τ sig) (V4 m d) := by
  rw [held_call d (V4 m d), V4_v6, V4_v4_2, V4_v7]

set_option backward.isDefEq.respectTransparency.types false in
theorem wp_region0 (κ : GSem nD τ sig → ℕ) (d : Dev nD) {Q : PUnit → sProp 𝕄} :
    iprop(boundary (T d) ∗ StableHlo.held (T d) (Pipeline.ucRefs τ sig) (V1 m d) ∗ (K (F := F)).tcSt EH d 0 ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ iprop(((boundary (T d) ∗ StableHlo.held (T d) (Pipeline.ucRefs τ sig) (V2 m d) ∗ (K (F := F)).tcSt EH d 0) -∗ Q ⟨⟩)
        -∗ wp frame (wpE ((K (F := F)).defs (D (F := F))) 𝒱 (T d) none) Set.univ
          (Prog.lift (.customCall (SparseCore.inner (Pipeline.entry 0)) ()) : Prog (TpuEff nD τ sig (Elt F) (SparseCore.Sig (ΛP (F := F)) 1) .tc) PUnit) Q) := by
  unfold SparseCore.Cfg.tcSt
  iintro ⟨Hb, Hh, ⟨HO, Hst⟩, Hlv, Hg, Hk⟩ Hcont
  iapply ((K (F := F)).wp_liftProg (D (F := F)) 𝒱 (T d) Set.univ none
    (.op (.customCall (Pipeline.entry 0) ()) .ret : Prog (TpuEff nD τ sig (Elt F) (ΛP (F := F)) .tc) PUnit) Q)
  iapply (Pipeline.RegionSeg.wp (pcfgs (F := F)) adm (pdats (V1 m) (On (F := F) 0) (bn 0)) (none : HIx 1) pin_inj EP (defs₀ (F := F)) 𝒱₀
    (K (F := F)).L (K (F := F)).lev (regKnn m) d none (fun u hu => nomatch hu) .ret Q)
  isplitl [Hcont Hst]
  · iintro ⟨Hb, Hpost⟩
    ihave Hpost' := (Entails.of_eq (regKnn_post m d)) $$ Hpost
    icases Hpost' with ⟨Hh, HO⟩
    rw [wp_ret]
    imodintro
    iapply Hcont
    isplitl [Hb]; · iexact Hb
    isplitl [Hh]; · iexact Hh
    isplitl [HO]; · iexact HO
    iexact Hst
  isplitl [Hb]; · iexact Hb
  isplitl [Hh HO]
  · iapply (Entails.of_eq (regKnn_pre m d).symm)
    isplitl [Hh]; · iexact Hh
    iexact HO
  isplitl [Hlv]; · iexact Hlv
  isplitl [Hg] <;> iassumption

set_option backward.isDefEq.respectTransparency.types false in
theorem wp_region1 (κ : GSem nD τ sig → ℕ) (d : Dev nD) {Q : PUnit → sProp 𝕄} :
    iprop(boundary (T d) ∗ StableHlo.held (T d) (Pipeline.ucRefs τ sig) (V5 m d) ∗ (K (F := F)).tcSt EH d 1 ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ iprop(((boundary (T d) ∗ StableHlo.held (T d) (Pipeline.ucRefs τ sig) (V6 m d) ∗ (K (F := F)).tcSt EH d 1) -∗ Q ⟨⟩)
        -∗ wp frame (wpE ((K (F := F)).defs (D (F := F))) 𝒱 (T d) none) Set.univ
          (Prog.lift (.customCall (SparseCore.inner (Pipeline.entry 1)) ()) : Prog (TpuEff nD τ sig (Elt F) (SparseCore.Sig (ΛP (F := F)) 1) .tc) PUnit) Q) := by
  unfold SparseCore.Cfg.tcSt
  iintro ⟨Hb, Hh, ⟨HO, Hst⟩, Hlv, Hg, Hk⟩ Hcont
  iapply ((K (F := F)).wp_liftProg (D (F := F)) 𝒱 (T d) Set.univ none
    (.op (.customCall (Pipeline.entry 1) ()) .ret : Prog (TpuEff nD τ sig (Elt F) (ΛP (F := F)) .tc) PUnit) Q)
  iapply (Pipeline.RegionSeg.wp (pcfgs (F := F)) adm (pdats (V5 m) (On (F := F) 1) (bn 1)) (none : HIx 1) pin_inj EP (defs₀ (F := F)) 𝒱₀
    (K (F := F)).L (K (F := F)).lev (regMlp m) d none (fun u hu => nomatch hu) .ret Q)
  isplitl [Hcont Hst]
  · iintro ⟨Hb, Hpost⟩
    ihave Hpost' := (Entails.of_eq (regMlp_post m d)) $$ Hpost
    icases Hpost' with ⟨Hh, HO⟩
    rw [wp_ret]
    imodintro
    iapply Hcont
    isplitl [Hb]; · iexact Hb
    isplitl [Hh]; · iexact Hh
    isplitl [HO]; · iexact HO
    iexact Hst
  isplitl [Hb]; · iexact Hb
  isplitl [Hh HO]
  · iapply (Entails.of_eq (regMlp_pre m d).symm)
    isplitl [Hh]; · iexact Hh
    iexact HO
  isplitl [Hlv]; · iexact Hlv
  isplitl [Hg] <;> iassumption

set_option backward.isDefEq.respectTransparency.types false in
theorem main_wp (κ : GSem nD τ sig → ℕ) (d : Dev nD) :
    iprop((K (F := F)).ctx EH (PP) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ fin m d ∗ (K (F := F)).tcEnd d) := by
  unfold SparseCore.Cfg.tcRes SparseCore.Cfg.tcEnd
  unfold G
  rw [two, two, all_held]
  simp only [main, wp_bind, wp_pure]
  iintro ⟨#Hctx, Hst, ⟨Hb, Hh, Hts, -⟩, ⟨Hg0, Hg1⟩, Hk0, Hk1⟩
  ihave #Hlv := (SparseCore.Cfg.ctx_levAts κ) $$ Hctx
  iapply (StableHlo.wp_hlo_within 𝒱 (T d) none Set.univ (op := opB) (S := Pipeline.ucRefs τ sig) opB_sub (V := V0 m d)) $$ [Hb Hh]
  · isplitl [Hb] <;> iassumption
  iintro ⟨Hb, Hh⟩; rw [wp_ret]; imodintro
  iapply (StableHlo.wp_hlo_within 𝒱 (T d) none Set.univ (op := opT) (S := Pipeline.ucRefs τ sig) opT_sub (V := opB.result (V0 m d))) $$ [Hb Hh]
  · isplitl [Hb] <;> iassumption
  iintro ⟨Hb, Hh⟩; rw [wp_ret]; imodintro
  iapply (StableHlo.wp_hlo_within 𝒱 (T d) none Set.univ (op := opS) (S := Pipeline.ucRefs τ sig) opS_sub (V := opT.result (opB.result (V0 m d)))) $$ [Hb Hh]
  · isplitl [Hb] <;> iassumption
  iintro ⟨Hb, Hh⟩; rw [wp_ret]; imodintro
  iapply (StableHlo.wp_hlo_within 𝒱 (T d) none Set.univ (op := opR1) (S := Pipeline.ucRefs τ sig) opR1_sub (V := opS.result (opT.result (opB.result (V0 m d))))) $$ [Hb Hh]
  · isplitl [Hb] <;> iassumption
  iintro ⟨Hb, Hh⟩; rw [wp_ret]; imodintro
  iapply (wp_region0 m κ d) $$ [Hb Hh Hst Hg0 Hk0]
  · isplitl [Hb]; · iexact Hb
    isplitl [Hh]; · iexact Hh
    isplitl [Hst]; · iexact Hst
    isplitr; · iexact Hlv
    isplitl [Hg0] <;> iassumption
  iintro ⟨Hb, Hh, Hst⟩
  iapply (StableHlo.wp_hlo_within 𝒱 (T d) none Set.univ (op := opCut) (S := Pipeline.ucRefs τ sig) opCut_sub (V := V2 m d)) $$ [Hb Hh]
  · isplitl [Hb] <;> iassumption
  iintro ⟨Hb, Hh⟩; rw [wp_ret]; imodintro
  iapply (StableHlo.wp_hlo_within 𝒱 (T d) none Set.univ (op := opLists) (S := Pipeline.ucRefs τ sig) opLists_sub (V := opCut.result (V2 m d))) $$ [Hb Hh]
  · isplitl [Hb] <;> iassumption
  iintro ⟨Hb, Hh⟩; rw [wp_ret]; imodintro
  rw [show opLists.result (opCut.result (V2 m d)) = V3 m d from rfl]
  ihave Hh' := (Entails.of_eq (held_call d (V3 m d))) $$ Hh
  icases Hh' with ⟨⟨Hi, Ht, Ho⟩, Hrest⟩
  iapply ((K (F := F)).wp_run (D (F := F)) 𝒱 (EH := EH) (P := PP) κ d 0) $$ [Hst Hi Ht Ho Hrest Hb Hts Hg1 Hk1]
  isplitr; · iexact Hctx
  isplitl [Hst]; · iexact Hst
  isplitl [Hi Ht Ho]
  · rw [call_takes]
    isplitl [Hi]; · iexact Hi
    isplitl [Ht]; · iexact Ht
    iexact Ho
  iintro ⟨Hst, Hdn⟩
  ihave Hdn' := (Entails.of_eq (call_brings (tabW m) (idsW m) (outW m) d)) $$ Hdn
  ihave Hrest' := (Entails.of_eq (held_rest m d)) $$ Hrest
  ihave Hh := (Entails.of_eq (held_after m d)) $$ [Hdn' Hrest']
  · isplitl [Hdn'] <;> iassumption
  iapply (StableHlo.wp_hlo_within 𝒱 (T d) none Set.univ (op := opR2) (S := Pipeline.ucRefs τ sig) opR2_sub (V := V4 m d)) $$ [Hb Hh]
  · isplitl [Hb] <;> iassumption
  iintro ⟨Hb, Hh⟩; rw [wp_ret]; imodintro
  iapply (StableHlo.wp_hlo_within 𝒱 (T d) none Set.univ (op := opR3) (S := Pipeline.ucRefs τ sig) opR3_sub (V := opR2.result (V4 m d))) $$ [Hb Hh]
  · isplitl [Hb] <;> iassumption
  iintro ⟨Hb, Hh⟩; rw [wp_ret]; imodintro
  rw [show opR3.result (opR2.result (V4 m d)) = V5 m d from rfl]
  iapply (wp_region1 m κ d) $$ [Hb Hh Hst Hg1 Hk1]
  · isplitl [Hb]; · iexact Hb
    isplitl [Hh]; · iexact Hh
    isplitl [Hst]; · iexact Hst
    isplitr; · iexact Hlv
    isplitl [Hg1] <;> iassumption
  iintro ⟨Hb, Hh, Hst⟩
  imodintro
  isplitl [Hst]; · iexact Hst
  isplitl [Hh]; · iexact Hh
  isplitl [Hb] <;> iassumption

/-! ## The run -/

def u₀ : UU := (initOf (K (F := F)).hsCells (K (F := F)).hsToks,
  (initOf (Pipeline.cells (Pipeline.pin (pcfgs (F := F)) adm) pin_inj) (Pipeline.launchToks (Pipeline.pin (pcfgs (F := F)) adm) pin_inj), 1))

theorem start : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (PP).x q thr) := by
  have e₂ : (bigSep Finset.univ fun thr : Thread nD τ => bigSep Finset.univ fun q : Fin 1 => (PP).x q thr) = (iprop(emp) : sProp 𝕄) :=
    (bigSep_congr fun _ _ => bigSep_univ_of_subsingleton (0 : Fin 1)).trans (bigSep_emp_const _)
  rw [e₂, BI.bigSep_sep']
  unfold u₀
  iintro Hu
  ihave H := (ownU_pair (initOf (K (F := F)).hsCells (K (F := F)).hsToks) (_ : UPp × Counters)) $$ Hu
  icases H with ⟨HH, HR⟩
  ihave H := (own_pair_emb embR _ (1 : Counters)) $$ HR
  icases H with ⟨HP, -⟩
  ihave H := (Pipeline.fund_ghost (Pipeline.pin (pcfgs (F := F)) adm) EP pin_inj) $$ [HP]
  · iexact HP
  imod H
  icases H with ⟨Hg, Hk⟩
  imodintro
  isplitl [HH]; · iexact HH
  isplitl [Hg Hk]; · isplitl [Hg] <;> iassumption
  iempintro

/-- Every unscoped array ends at its last contents. -/
def ends (d : Dev nD) (s' : Phys nD τ sig (Elt F)) : Prop := ∀ b ∈ Pipeline.ucRefs τ sig, s'.mem.mem (d, b) = V6 m d b

theorem fin_ends (d : Dev nD) (s' : Phys nD τ sig (Elt F)) : iprop(fin m d ∗ SI s') ⊢ (⌜ends m d s'⌝ : sProp 𝕄) := by
  unfold ends fin StableHlo.held
  exact BI.sep_comm.trans (SI_pointsTo_bufs_agree (qs := fun _ => fullShare) (Pipeline.ucRefs τ sig))

theorem run (hids : InRows (idsW m)) :
    θ_run (Cert.KernelIdeal.defs (F := F)) (Cert.KernelIdeal.threads (F := F)) ⟨m, fun _ => 0, ρ⟩ fun r =>
      (∀ d : Dev nD, ∀ b ∈ Pipeline.ucRefs τ sig, r.2.mem (d, b) = V6 m d b) ∧ r.2.sem = fun _ => 0 :=
  SparseCore.Cfg.θ_run_sc_quiescent (K := K (F := F)) (D := D (F := F)) (𝒱 := 𝒱) (EH := EH) (P := PP) (A := ∅) facts v₀
    (fun q hq => match q with | 0 => nomatch hq)
    (fun q _ => match q with | 0 => tileObl (tabW m) (idsW m) (outW m) facts hids)
    (fun q _ => match q with | 0 => SparseCore.Cfg.VecSplit.of_plain (vecSplit (tabW m) (idsW m) (outW m)))
    m ρ main G (fin m) (u₀ (F := F)) (sep_elim_left.trans (start m)) (main_wp m ρ) (ends m) (fin_ends m) _ (fun _ h hz => ⟨h, hz⟩)

end Cert.Proof.KernelRun

end
-- ==== Proof.KernelArrays.lean ====
/-
  What the two TensorCore calls leave in their result arrays, each array whole: row `r` is what the body computes for the
  block of 256 rows that holds it.
-/
module

public import proofs.«01_k».proof.Proof.KernelKnn
public import proofs.«01_k».proof.Proof.KernelMlp
public import Idealize.ShloMosaic.Lib.Pipeline.ValueKit

@[expose] public section

set_option maxRecDepth 16384

noncomputable section

namespace Cert.Proof.KernelArrays

open Cert.KernelIdeal Cert.KernelIdeal.Gen
open Idealize.ShloMosaic
open Idealize.ShloMosaic.SparseCore.Cfg (HIx)
open Idealize.ShloMosaic.ValueIdx

variable {F : FTy → Type} [FloatOps F]

/-- The index at row `r`, lane `l`. -/
def at2 {a b : ℕ} (r : ℕ) (hr : r < a) (l : Fin b) : (⟨2, ![a, b]⟩ : Shape).Idx
  | 0 => ⟨r, hr⟩
  | 1 => ⟨l.val, l.isLt⟩

/-- Block `b` of `n` rows each. -/
def block {α : Type} {N L : ℕ} (n : ℕ) (h : n * 16 = N) (X : (⟨2, ![N, L]⟩ : Shape).Idx → α) (b : Fin 16) : (⟨2, ![n, L]⟩ : Shape).Idx → α :=
  fun y => X (at2 (b.val * n + (y 0).val) (by
    have h0 : (y 0).val < n := (y 0).isLt
    have := b.isLt
    nlinarith) (y 1))

/-- Blocks of 256 rows put one below the other. -/
def stack {α : Type} {L : ℕ} (g : Fin 16 → (⟨2, ![256, L]⟩ : Shape).Idx → α) : (⟨2, ![4096, L]⟩ : Shape).Idx → α := fun x =>
  g ⟨(x 0).val / 256, Nat.div_lt_of_lt_mul (x 0).isLt⟩ (at2 ((x 0).val % 256) (Nat.mod_lt _ (by norm_num)) (x 1))

theorem stack_at {α : Type} {L : ℕ} (g : Fin 16 → (⟨2, ![256, L]⟩ : Shape).Idx → α) (b : Fin 16) (y : (⟨2, ![256, L]⟩ : Shape).Idx)
    (x : (⟨2, ![4096, L]⟩ : Shape).Idx) (h0 : (x 0).val = b.val * 256 + (y 0).val) (h1 : (x 1).val = (y 1).val) : stack g x = g b y := by
  have hy : (y 0).val < 256 := (y 0).isLt
  have hb : (⟨(x 0).val / 256, Nat.div_lt_of_lt_mul (x 0).isLt⟩ : Fin 16) = b := Fin.ext (by show (x 0).val / 256 = b.val; omega)
  unfold stack
  rw [hb]
  refine congrArg (g b) (funext fun a => Fin.ext ?_)
  match a with
  | 0 => show (x 0).val % 256 = (y 0).val; omega
  | 1 => exact h1

variable (V : Dev nD → Valuation τ sig (Elt F)) (O : Dev nD → CellTallies nD τ sig (HIx 1)) (B : Dev nD → Set (SemLoc sig × HIx 1))

theorem coord_toNat (i : Fin 16) : (BitVec.ofNat 32 i.val).toNat = i.val := by
  rw [BitVec.toNat_ofNat]; exact Nat.mod_eq_of_lt (by have := i.isLt; omega)

theorem knn_in0 (c : Dev nD) (t : Fin cfg0.N) :
    KernelKnn.blkOf V c 0 t = block 256 rfl (V c (Proc.devRef .tc main_arg0)) (grid0.coords t 0) := by
  funext y
  refine congrArg (V c (Proc.devRef .tc main_arg0)) (funext fun a => Fin.ext ((win0_0.rect_emb_val t y a).trans ?_))
  have h := coord_toNat (grid0.coords t 0)
  match a with
  | 0 => exact congrArg (· * 256 + (y 0).val) h
  | 1 => exact Nat.zero_add _
theorem knn_in1 (c : Dev nD) (t : Fin cfg0.N) :
    KernelKnn.blkOf V c 1 t = V c (Proc.devRef .tc main_v2) := by
  funext y
  refine congrArg (V c (Proc.devRef .tc main_v2)) (funext fun a => Fin.ext ((win0_1.rect_emb_val t y a).trans ?_))
  match a with
  | 0 => exact (congrArg (· + (y 0).val) (Nat.zero_mul _)).trans (Nat.zero_add _)
  | 1 => exact (congrArg (· + (y 1).val) (Nat.zero_mul _)).trans (Nat.zero_add _)
theorem knn_in2 (c : Dev nD) (t : Fin cfg0.N) :
    KernelKnn.blkOf V c 2 t = V c (Proc.devRef .tc main_v0) := by
  funext y
  refine congrArg (V c (Proc.devRef .tc main_v0)) (funext fun a => Fin.ext ((win0_2.rect_emb_val t y a).trans ?_))
  match a with
  | 0 => exact (congrArg (· + (y 0).val) (Nat.zero_mul _)).trans (Nat.zero_add _)
  | 1 => exact (congrArg (· + (y 1).val) (Nat.zero_mul _)).trans (Nat.zero_add _)
theorem knn_in3 (c : Dev nD) (t : Fin cfg0.N) :
    KernelKnn.blkOf V c 3 t = V c (Proc.devRef .tc main_v3) := by
  funext y
  refine congrArg (V c (Proc.devRef .tc main_v3)) (funext fun a => Fin.ext ((win0_3.rect_emb_val t y a).trans ?_))
  match a with
  | 0 => exact (congrArg (· + (y 0).val) (Nat.zero_mul _)).trans (Nat.zero_add _)
  | 1 => exact (congrArg (· + (y 1).val) (Nat.zero_mul _)).trans (Nat.zero_add _)
theorem mlp_in0 (c : Dev nD) (t : Fin cfg2.N) :
    KernelMlp.blkOf V c 0 t = block 7680 rfl (V c (Proc.devRef .tc main_v7)) (grid2.coords t 0) := by
  funext y
  refine congrArg (V c (Proc.devRef .tc main_v7)) (funext fun a => Fin.ext ((win2_0.rect_emb_val t y a).trans ?_))
  have h := coord_toNat (grid2.coords t 0)
  match a with
  | 0 => exact congrArg (· * 7680 + (y 0).val) h
  | 1 => exact Nat.zero_add _
theorem mlp_in1 (c : Dev nD) (t : Fin cfg2.N) :
    KernelMlp.blkOf V c 1 t = block 256 rfl (V c (Proc.devRef .tc main_v4_1)) (grid2.coords t 0) := by
  funext y
  refine congrArg (V c (Proc.devRef .tc main_v4_1)) (funext fun a => Fin.ext ((win2_1.rect_emb_val t y a).trans ?_))
  have h := coord_toNat (grid2.coords t 0)
  match a with
  | 0 => exact congrArg (· * 256 + (y 0).val) h
  | 1 => exact Nat.zero_add _
theorem mlp_in2 (c : Dev nD) (t : Fin cfg2.N) :
    KernelMlp.blkOf V c 2 t = V c (Proc.devRef .tc main_arg4) := by
  funext y
  refine congrArg (V c (Proc.devRef .tc main_arg4)) (funext fun a => Fin.ext ((win2_2.rect_emb_val t y a).trans ?_))
  match a with
  | 0 => exact (congrArg (· + (y 0).val) (Nat.zero_mul _)).trans (Nat.zero_add _)
  | 1 => exact (congrArg (· + (y 1).val) (Nat.zero_mul _)).trans (Nat.zero_add _)
theorem mlp_in3 (c : Dev nD) (t : Fin cfg2.N) :
    KernelMlp.blkOf V c 3 t = V c (Proc.devRef .tc main_v8) := by
  funext y
  refine congrArg (V c (Proc.devRef .tc main_v8)) (funext fun a => Fin.ext ((win2_3.rect_emb_val t y a).trans ?_))
  match a with
  | 0 => exact (congrArg (· + (y 0).val) (Nat.zero_mul _)).trans (Nat.zero_add _)
  | 1 => exact (congrArg (· + (y 1).val) (Nat.zero_mul _)).trans (Nat.zero_add _)
theorem mlp_in4 (c : Dev nD) (t : Fin cfg2.N) :
    KernelMlp.blkOf V c 4 t = V c (Proc.devRef .tc main_arg6) := by
  funext y
  refine congrArg (V c (Proc.devRef .tc main_arg6)) (funext fun a => Fin.ext ((win2_4.rect_emb_val t y a).trans ?_))
  match a with
  | 0 => exact (congrArg (· + (y 0).val) (Nat.zero_mul _)).trans (Nat.zero_add _)
  | 1 => exact (congrArg (· + (y 1).val) (Nat.zero_mul _)).trans (Nat.zero_add _)
theorem mlp_in5 (c : Dev nD) (t : Fin cfg2.N) :
    KernelMlp.blkOf V c 5 t = V c (Proc.devRef .tc main_v9) := by
  funext y
  refine congrArg (V c (Proc.devRef .tc main_v9)) (funext fun a => Fin.ext ((win2_5.rect_emb_val t y a).trans ?_))
  match a with
  | 0 => exact (congrArg (· + (y 0).val) (Nat.zero_mul _)).trans (Nat.zero_add _)
  | 1 => exact (congrArg (· + (y 1).val) (Nat.zero_mul _)).trans (Nat.zero_add _)

theorem outN_eq (c : Dev nD) : (KernelKnn.dat V O B c).arrAt 4 cfg0.N
    = (stack (fun b => KernelSteps.nbrs (BitVec.ofNat 32 b.val) (block 256 rfl (V c (Proc.devRef .tc main_arg0)) b)) : S4096x32.Idx → Elt F .i32) := by
  refine (KernelKnn.dat V O B c).arrAt_eq_of_covers 4 _ (by decide +kernel) fun t hf y => ?_
  rw [KernelKnn.after_4]
  blk_simp
  have h := coord_toNat (grid0.coords t 0)
  have h0 : (((cfg0.win 4).blk t).view.emb y 0).val = (grid0.coords t 0).val * 256 + (y 0).val :=
    (win0_4.rect_emb_val t y 0).trans (congrArg (· * 256 + (y 0).val) h)
  have h1 : (((cfg0.win 4).blk t).view.emb y 1).val = (y 1).val :=
    (win0_4.rect_emb_val t y 1).trans ((congrArg (· + (y 1).val) (Nat.zero_mul _)).trans (Nat.zero_add _))
  refine Eq.trans ?_ (stack_at (L := 32) _ (grid0.coords t 0) y _ h0 h1).symm
  unfold KernelKnn.outN
  rw [knn_in0]

theorem outA_eq (c : Dev nD) : (KernelKnn.dat V O B c).arrAt 5 cfg0.N
    = (stack (fun b => k0_pay69 (block 256 rfl (V c (Proc.devRef .tc main_arg0)) b) (V c (Proc.devRef .tc main_v2)) (V c (Proc.devRef .tc main_v3))) : S4096x64.Idx → Elt F .f32) := by
  refine (KernelKnn.dat V O B c).arrAt_eq_of_covers 5 _ (by decide +kernel) fun t hf y => ?_
  rw [KernelKnn.after_5]
  blk_simp
  have h := coord_toNat (grid0.coords t 0)
  have h0 : (((cfg0.win 5).blk t).view.emb y 0).val = (grid0.coords t 0).val * 256 + (y 0).val :=
    (win0_5.rect_emb_val t y 0).trans (congrArg (· * 256 + (y 0).val) h)
  have h1 : (((cfg0.win 5).blk t).view.emb y 1).val = (y 1).val :=
    (win0_5.rect_emb_val t y 1).trans ((congrArg (· + (y 1).val) (Nat.zero_mul _)).trans (Nat.zero_add _))
  refine Eq.trans ?_ (stack_at (L := 64) _ (grid0.coords t 0) y _ h0 h1).symm
  unfold KernelKnn.outA
  rw [knn_in0, knn_in1, knn_in3]

theorem outC_eq (c : Dev nD) : (KernelKnn.dat V O B c).arrAt 6 cfg0.N
    = (stack (fun b => k0_pay1 (block 256 rfl (V c (Proc.devRef .tc main_arg0)) b) (V c (Proc.devRef .tc main_v0))) : S4096x128.Idx → Elt F .f32) := by
  refine (KernelKnn.dat V O B c).arrAt_eq_of_covers 6 _ (by decide +kernel) fun t hf y => ?_
  rw [KernelKnn.after_6]
  blk_simp
  have h := coord_toNat (grid0.coords t 0)
  have h0 : (((cfg0.win 6).blk t).view.emb y 0).val = (grid0.coords t 0).val * 256 + (y 0).val :=
    (win0_6.rect_emb_val t y 0).trans (congrArg (· * 256 + (y 0).val) h)
  have h1 : (((cfg0.win 6).blk t).view.emb y 1).val = (y 1).val :=
    (win0_6.rect_emb_val t y 1).trans ((congrArg (· + (y 1).val) (Nat.zero_mul _)).trans (Nat.zero_add _))
  refine Eq.trans ?_ (stack_at (L := 128) _ (grid0.coords t 0) y _ h0 h1).symm
  unfold KernelKnn.outC
  rw [knn_in0, knn_in2]

theorem outM_eq (c : Dev nD) : (KernelMlp.dat V O B c).arrAt 6 cfg2.N
    = (stack (fun b => k2_pay1 (block 256 rfl (V c (Proc.devRef .tc main_v4_1)) b) (block 7680 rfl (V c (Proc.devRef .tc main_v7)) b) (V c (Proc.devRef .tc main_arg4)) (V c (Proc.devRef .tc main_v8)) (V c (Proc.devRef .tc main_arg6)) (V c (Proc.devRef .tc main_v9))) : S4096x64.Idx → Elt F .f32) := by
  refine (KernelMlp.dat V O B c).arrAt_eq_of_covers 6 _ (by decide +kernel) fun t hf y => ?_
  rw [KernelMlp.after_6]
  blk_simp
  have h := coord_toNat (grid2.coords t 0)
  have h0 : (((cfg2.win 6).blk t).view.emb y 0).val = (grid2.coords t 0).val * 256 + (y 0).val :=
    (win2_6.rect_emb_val t y 0).trans (congrArg (· * 256 + (y 0).val) h)
  have h1 : (((cfg2.win 6).blk t).view.emb y 1).val = (y 1).val :=
    (win2_6.rect_emb_val t y 1).trans ((congrArg (· + (y 1).val) (Nat.zero_mul _)).trans (Nat.zero_add _))
  refine Eq.trans ?_ (stack_at (L := 64) _ (grid2.coords t 0) y _ h0 h1).symm
  unfold KernelMlp.out
  rw [mlp_in0, mlp_in1, mlp_in2, mlp_in3, mlp_in4, mlp_in5]

end Cert.Proof.KernelArrays

end
-- ==== Proof.KernelValue.lean ====
/-
  The arrays' contents along @main, as terms of the arguments: what each host operation and each call leaves, one after
  the other.
-/
module

public import proofs.«01_k».proof.Proof.KernelRun
public import proofs.«01_k».proof.Proof.KernelArrays

@[expose] public section

set_option maxRecDepth 16384

noncomputable section

namespace Cert.Proof.KernelValue

open Cert.KernelIdeal Cert.KernelIdeal.Gen Cert.Proof.KernelRun Cert.Proof.KernelTile Cert.Proof.KernelArrays
open Idealize.ShloMosaic Idealize.ShloMosaic.StableHlo

variable {F : FTy → Type} [FloatOps F] [∀ e, Nonempty (Elt F e)]
variable (m : (ℓ : Loc nD τ sig) → Buf (Elt F) ℓ) (d : Dev nD)

theorem V1_v0 : V1 m d (r' main_v0) = extractStridedSlice S64x64 ![64, 0] (m (d, r' main_arg2)) slices_S128x64_S64x64_64_0 := by
  unfold V1
  after_results_simp
  rfl
theorem V1_v2 : V1 m d (r' main_v2) = addf (extractStridedSlice S64x64 ![0, 0] (m (d, r' main_arg2)) slices_S128x64_S64x64_0_0) (extractStridedSlice S64x64 ![64, 0] (m (d, r' main_arg2)) slices_S128x64_S64x64_64_0) := by
  unfold V1
  after_results_simp
  rfl
theorem V1_v3 : V1 m d (r' main_v3) = shapeCast S1x64 (m (d, r' main_arg3)) shapeCasts_S64_S1x64 := by
  unfold V1
  after_results_simp
  rfl
theorem V1_arg0 : V1 m d (r' main_arg0) = m (d, r' main_arg0) := by
  unfold V1
  after_results_simp
  rfl
theorem V5_arg0 : V5 m d (r' main_arg0) = m (d, r' main_arg0) := by
  unfold V5
  after_results_simp
  unfold V4
  rw [Function.update_of_ne (by decide)]
  unfold V3
  after_results_simp
  unfold V2
  rw [Function.update_of_ne (by decide), Function.update_of_ne (by decide), Function.update_of_ne (by decide)]
  exact V1_arg0 m d
theorem V6_arg0 : V6 m d (r' main_arg0) = m (d, r' main_arg0) := by
  unfold V6
  rw [Function.update_of_ne (by decide)]
  exact V5_arg0 m d
theorem V1_arg1 : V1 m d (r' main_arg1) = m (d, r' main_arg1) := by
  unfold V1
  after_results_simp
  rfl
theorem V5_arg1 : V5 m d (r' main_arg1) = m (d, r' main_arg1) := by
  unfold V5
  after_results_simp
  unfold V4
  rw [Function.update_of_ne (by decide)]
  unfold V3
  after_results_simp
  unfold V2
  rw [Function.update_of_ne (by decide), Function.update_of_ne (by decide), Function.update_of_ne (by decide)]
  exact V1_arg1 m d
theorem V6_arg1 : V6 m d (r' main_arg1) = m (d, r' main_arg1) := by
  unfold V6
  rw [Function.update_of_ne (by decide)]
  exact V5_arg1 m d
theorem V1_arg2 : V1 m d (r' main_arg2) = m (d, r' main_arg2) := by
  unfold V1
  after_results_simp
  rfl
theorem V5_arg2 : V5 m d (r' main_arg2) = m (d, r' main_arg2) := by
  unfold V5
  after_results_simp
  unfold V4
  rw [Function.update_of_ne (by decide)]
  unfold V3
  after_results_simp
  unfold V2
  rw [Function.update_of_ne (by decide), Function.update_of_ne (by decide), Function.update_of_ne (by decide)]
  exact V1_arg2 m d
theorem V6_arg2 : V6 m d (r' main_arg2) = m (d, r' main_arg2) := by
  unfold V6
  rw [Function.update_of_ne (by decide)]
  exact V5_arg2 m d
theorem V1_arg3 : V1 m d (r' main_arg3) = m (d, r' main_arg3) := by
  unfold V1
  after_results_simp
  rfl
theorem V5_arg3 : V5 m d (r' main_arg3) = m (d, r' main_arg3) := by
  unfold V5
  after_results_simp
  unfold V4
  rw [Function.update_of_ne (by decide)]
  unfold V3
  after_results_simp
  unfold V2
  rw [Function.update_of_ne (by decide), Function.update_of_ne (by decide), Function.update_of_ne (by decide)]
  exact V1_arg3 m d
theorem V6_arg3 : V6 m d (r' main_arg3) = m (d, r' main_arg3) := by
  unfold V6
  rw [Function.update_of_ne (by decide)]
  exact V5_arg3 m d
theorem V1_arg4 : V1 m d (r' main_arg4) = m (d, r' main_arg4) := by
  unfold V1
  after_results_simp
  rfl
theorem V5_arg4 : V5 m d (r' main_arg4) = m (d, r' main_arg4) := by
  unfold V5
  after_results_simp
  unfold V4
  rw [Function.update_of_ne (by decide)]
  unfold V3
  after_results_simp
  unfold V2
  rw [Function.update_of_ne (by decide), Function.update_of_ne (by decide), Function.update_of_ne (by decide)]
  exact V1_arg4 m d
theorem V6_arg4 : V6 m d (r' main_arg4) = m (d, r' main_arg4) := by
  unfold V6
  rw [Function.update_of_ne (by decide)]
  exact V5_arg4 m d
theorem V1_arg5 : V1 m d (r' main_arg5) = m (d, r' main_arg5) := by
  unfold V1
  after_results_simp
  rfl
theorem V5_arg5 : V5 m d (r' main_arg5) = m (d, r' main_arg5) := by
  unfold V5
  after_results_simp
  unfold V4
  rw [Function.update_of_ne (by decide)]
  unfold V3
  after_results_simp
  unfold V2
  rw [Function.update_of_ne (by decide), Function.update_of_ne (by decide), Function.update_of_ne (by decide)]
  exact V1_arg5 m d
theorem V6_arg5 : V6 m d (r' main_arg5) = m (d, r' main_arg5) := by
  unfold V6
  rw [Function.update_of_ne (by decide)]
  exact V5_arg5 m d
theorem V1_arg6 : V1 m d (r' main_arg6) = m (d, r' main_arg6) := by
  unfold V1
  after_results_simp
  rfl
theorem V5_arg6 : V5 m d (r' main_arg6) = m (d, r' main_arg6) := by
  unfold V5
  after_results_simp
  unfold V4
  rw [Function.update_of_ne (by decide)]
  unfold V3
  after_results_simp
  unfold V2
  rw [Function.update_of_ne (by decide), Function.update_of_ne (by decide), Function.update_of_ne (by decide)]
  exact V1_arg6 m d
theorem V6_arg6 : V6 m d (r' main_arg6) = m (d, r' main_arg6) := by
  unfold V6
  rw [Function.update_of_ne (by decide)]
  exact V5_arg6 m d
theorem V1_arg7 : V1 m d (r' main_arg7) = m (d, r' main_arg7) := by
  unfold V1
  after_results_simp
  rfl
theorem V5_arg7 : V5 m d (r' main_arg7) = m (d, r' main_arg7) := by
  unfold V5
  after_results_simp
  unfold V4
  rw [Function.update_of_ne (by decide)]
  unfold V3
  after_results_simp
  unfold V2
  rw [Function.update_of_ne (by decide), Function.update_of_ne (by decide), Function.update_of_ne (by decide)]
  exact V1_arg7 m d
theorem V6_arg7 : V6 m d (r' main_arg7) = m (d, r' main_arg7) := by
  unfold V6
  rw [Function.update_of_ne (by decide)]
  exact V5_arg7 m d
theorem V5_v8 : V5 m d (r' main_v8) = shapeCast S1x64 (m (d, r' main_arg5)) shapeCasts_S64_S1x64 := by
  rw [← V5_arg5 m d]
  unfold V5
  after_results_simp
  rfl
theorem V5_v9 : V5 m d (r' main_v9) = shapeCast S1x64 (m (d, r' main_arg7)) shapeCasts_S64_S1x64 := by
  rw [← V5_arg7 m d]
  unfold V5
  after_results_simp
  rfl

/-- What the first call stores of rows `X`, weights `W` and a bias `b`: the neighbours, the table, the row terms; and what
    the last call stores. -/
def nbrsOf (X : S4096x64.Idx → Elt F .f32) : S4096x32.Idx → Elt F .i32 :=
  stack fun b => KernelSteps.nbrs (BitVec.ofNat 32 b.val) (block 256 rfl X b)
def tableOf (X : S4096x64.Idx → Elt F .f32) (W : S64x64.Idx → Elt F .f32) : S4096x128.Idx → Elt F .f32 :=
  stack fun b => k0_pay1 (block 256 rfl X b) W
def termsOf (X : S4096x64.Idx → Elt F .f32) (W : S64x64.Idx → Elt F .f32) (v : S1x64.Idx → Elt F .f32) : S4096x64.Idx → Elt F .f32 :=
  stack fun b => k0_pay69 (block 256 rfl X b) W v
def mlpOf (A : S4096x64.Idx → Elt F .f32) (G : S122880x128.Idx → Elt F .f32) (W2 : S64x64.Idx → Elt F .f32) (b2 : S1x64.Idx → Elt F .f32)
    (W3 : S64x64.Idx → Elt F .f32) (b3 : S1x64.Idx → Elt F .f32) : S4096x64.Idx → Elt F .f32 :=
  stack fun b => k2_pay1 (block 256 rfl A b) (block 7680 rfl G b) W2 b2 W3 b3

/-- The lower half of the first weights, and the sum of both halves. -/
def lower (W : S128x64.Idx → Elt F .f32) : S64x64.Idx → Elt F .f32 := extractStridedSlice S64x64 ![64, 0] W slices_S128x64_S64x64_64_0
def upper (W : S128x64.Idx → Elt F .f32) : S64x64.Idx → Elt F .f32 := extractStridedSlice S64x64 ![0, 0] W slices_S128x64_S64x64_0_0
def both (W : S128x64.Idx → Elt F .f32) : S64x64.Idx → Elt F .f32 := addf (upper W) (lower W)
def row (b : S64.Idx → Elt F .f32) : S1x64.Idx → Elt F .f32 := shapeCast S1x64 b shapeCasts_S64_S1x64

/-- The neighbour lists as the SparseCore call takes them. -/
def listsOf (X : S4096x64.Idx → Elt F .f32) : S32x30x128.Idx → Elt F .i32 :=
  shapeCast S32x30x128 (extractStridedSlice S4096x30 ![0, 0] (nbrsOf X) slices_S4096x32_S4096x30_0_0) shapeCasts_S4096x30_S32x30x128

/-- What the kernel returns, of its arguments. -/
def kernelOf (X : S4096x64.Idx → Elt F .f32) (W1 : S128x64.Idx → Elt F .f32) (b1 : S64.Idx → Elt F .f32) (W2 : S64x64.Idx → Elt F .f32)
    (b2 : S64.Idx → Elt F .f32) (W3 : S64x64.Idx → Elt F .f32) (b3 : S64.Idx → Elt F .f32) : S4096x64.Idx → Elt F .f32 :=
  mlpOf (termsOf X (both W1) (row b1)) (rowsOf (tableOf X (lower W1)) (listsOf X)) W2 (row b2) W3 (row b3)

theorem V2_v4_0 : V2 m d (r' main_v4_0) = nbrsOf (m (d, r' main_arg0)) := by
  unfold V2
  rw [Function.update_of_ne (by decide), Function.update_of_ne (by decide), Function.update_self]
  refine (outN_eq (V1 m) _ _ d).trans ?_
  exact congrArg nbrsOf (V1_arg0 m d)
theorem V2_v4_1 : V2 m d (r' main_v4_1) = termsOf (m (d, r' main_arg0)) (both (m (d, r' main_arg2))) (row (m (d, r' main_arg3))) := by
  unfold V2
  rw [Function.update_of_ne (by decide), Function.update_self]
  refine (outA_eq (V1 m) _ _ d).trans ?_
  show termsOf (V1 m d (r' main_arg0)) (V1 m d (r' main_v2)) (V1 m d (r' main_v3)) = _
  rw [V1_arg0, V1_v2, V1_v3]
  rfl
theorem V2_v4_2 : V2 m d (r' main_v4_2) = tableOf (m (d, r' main_arg0)) (lower (m (d, r' main_arg2))) := by
  unfold V2
  rw [Function.update_self]
  refine (outC_eq (V1 m) _ _ d).trans ?_
  show tableOf (V1 m d (r' main_arg0)) (V1 m d (r' main_v0)) = _
  rw [V1_arg0, V1_v0]
  rfl

theorem idsW_eq : idsW m d = listsOf (m (d, r' main_arg0)) := by
  unfold idsW V3
  after_results_simp
  rw [V2_v4_0]
  rfl
theorem tabW_eq : tabW m d = tableOf (m (d, r' main_arg0)) (lower (m (d, r' main_arg2))) := by
  unfold tabW V3
  after_results_simp
  exact V2_v4_2 m d
theorem V5_v7 : V5 m d (r' main_v7) = rowsOf (tableOf (m (d, r' main_arg0)) (lower (m (d, r' main_arg2)))) (listsOf (m (d, r' main_arg0))) := by
  unfold V5
  after_results_simp
  rw [V4_v7, idsW_eq, tabW_eq]
theorem V5_v4_1 : V5 m d (r' main_v4_1) = termsOf (m (d, r' main_arg0)) (both (m (d, r' main_arg2))) (row (m (d, r' main_arg3))) := by
  unfold V5
  after_results_simp
  unfold V4
  rw [Function.update_of_ne (by decide)]
  unfold V3
  after_results_simp
  exact V2_v4_1 m d

theorem V6_v10 : V6 m d (r' main_v10) = kernelOf (m (d, r' main_arg0)) (m (d, r' main_arg2)) (m (d, r' main_arg3)) (m (d, r' main_arg4))
    (m (d, r' main_arg5)) (m (d, r' main_arg6)) (m (d, r' main_arg7)) := by
  unfold V6
  rw [Function.update_self]
  refine (outM_eq (V5 m) _ _ d).trans ?_
  show mlpOf (V5 m d (r' main_v4_1)) (V5 m d (r' main_v7)) (V5 m d (r' main_arg4)) (V5 m d (r' main_v8)) (V5 m d (r' main_arg6)) (V5 m d (r' main_v9)) = _
  rw [V5_v4_1, V5_v7, V5_arg4, V5_v8, V5_arg6, V5_v9]
  rfl

end Cert.Proof.KernelValue

end
-- ==== Proof.KernelLists.lean ====
/-
  The neighbour lists over the extended reals, at an index: the j-th neighbour of a row is a row of the table, so every
  word the SparseCore gathers by names one.
-/
module

public import proofs.«01_k».proof.Proof.KernelPick
public import proofs.«01_k».proof.Proof.KernelValue
public import Idealize.ShloMosaic.Lib.Pointwise

@[expose] public section

set_option maxRecDepth 16384

noncomputable section

namespace Cert.Proof.KernelLists

open Cert.KernelIdeal Cert.KernelIdeal.Gen Cert.Proof.KernelValue Cert.Proof.KernelPick Cert.Proof.KernelArrays
open Idealize.ShloMosaic

/-- The block a row lies in, and its place in the block. -/
def bk (R : Fin 4096) : Fin 16 := ⟨R.val / 256, by omega⟩
def ps (R : Fin 4096) : Fin 256 := ⟨R.val % 256, by omega⟩

/-- The rows of one block. -/
abbrev blk (X : S4096x64.Idx → EReal) (R : Fin 4096) : S256x64.Idx → EReal := block 256 rfl X (bk R)

/-- The row a row takes at its step `k`. -/
def nbr (X : S4096x64.Idx → EReal) (R : Fin 4096) (k : ℕ) : Fin 4096 :=
  ⟨256 * (R.val / 256) + (pick (blk X R) (ps R) k).val, by have := (pick (blk X R) (ps R) k).isLt; omega⟩

theorem block_apply (X : S4096x64.Idx → EReal) (b : Fin 16) (i : Fin 256) (k : Fin 64) :
    block 256 rfl X b (ix2 i k) = X (ix2 (⟨b.val * 256 + i.val, by omega⟩ : Fin 4096) k) := by
  refine congrArg X (funext fun c => ?_)
  fin_cases c <;> rfl

theorem at2_eq {n L : ℕ} (r : ℕ) (h : r < n) (l : Fin L) : (at2 r h l : (⟨2, ![n, L]⟩ : Shape).Idx) = ix2 (⟨r, h⟩ : Fin n) l := by
  funext c
  fin_cases c <;> rfl

theorem stack_apply {α : Type} {L : ℕ} (g : Fin 16 → (⟨2, ![256, L]⟩ : Shape).Idx → α) (R : Fin 4096) (l : Fin L) :
    stack g (ix2 R l) = g (bk R) (ix2 (ps R) l) :=
  congrArg (g (bk R)) (at2_eq _ _ _)

theorem nbrs_word (X : S4096x64.Idx → EReal) (R : Fin 4096) (l : Fin 32) (h : l.val < 30) :
    nbrsOf (F := Ideal) X (ix2 R l) = BitVec.ofNat 32 (nbr X R (l.val + 1)).val := by
  refine (stack_apply _ R l).trans ((nbrs_apply _ _ _ _).trans ?_)
  rw [if_pos h]
  show BitVec.ofNat 32 (pick (blk X R) (ps R) (l.val + 1)).val + BitVec.ofNat 32 (R.val / 256) * 256#32 = _
  apply BitVec.eq_of_toNat_eq
  have h1 := (pick (blk X R) (ps R) (l.val + 1)).isLt
  have h2 := R.isLt
  simp only [nbr, BitVec.toNat_add, BitVec.toNat_mul, BitVec.toNat_ofNat]
  omega

/-- The list entry at flat place `e`: the neighbour `e % 30` of row `e / 30`. -/
theorem lists_apply (X : S4096x64.Idx → EReal) (a : Fin 32) (b : Fin 30) (c : Fin 128) :
    listsOf (F := Ideal) X (ix3 a b c) = BitVec.ofNat 32
      (nbr X ⟨(a.val * 3840 + b.val * 128 + c.val) / 30, by omega⟩ ((a.val * 3840 + b.val * 128 + c.val) % 30 + 1)).val := by
  pointwise [listsOf]
  exact nbrs_word X _ ⟨_, _⟩ (Nat.mod_lt _ (by norm_num))

theorem lists_lt (X : S4096x64.Idx → EReal) (x : S32x30x128.Idx) : (listsOf (F := Ideal) X x : BitVec 32).toNat < 4096 := by
  obtain ⟨a, b, c, rfl⟩ : ∃ a b c, x = ix3 a b c := ⟨x 0, x 1, x 2, eq_ix3 x⟩
  rw [lists_apply, BitVec.toNat_ofNat]
  exact lt_of_le_of_lt (Nat.mod_le _ _) (Fin.isLt _)

theorem inRows (m : (ℓ : Loc nD τ sig) → Buf (Elt Ideal) ℓ) : KernelTile.InRows (KernelRun.idsW m) := fun d x => by
  rw [idsW_eq]
  exact lists_lt _ x

/-- The gathered row `e`: the table's row that is neighbour `e % 30` of row `e / 30`. -/
theorem gathered_apply (T : S4096x128.Idx → EReal) (X : S4096x64.Idx → EReal) (R : Fin 4096) (j : Fin 30) (l : Fin 128) :
    KernelTile.rowsOf (F := Ideal) T (listsOf (F := Ideal) X) (ix2 (⟨R.val * 30 + j.val, by omega⟩ : Fin 122880) l) =
      T (ix2 (nbr X R (j.val + 1)) l) := by
  have hp : KernelTile.place (⟨R.val * 30 + j.val, by omega⟩ : Fin 122880) =
      ix3 (⟨(R.val * 30 + j.val) / 3840, by omega⟩ : Fin 32) (⟨(R.val * 30 + j.val) % 3840 / 128, by omega⟩ : Fin 30) (⟨(R.val * 30 + j.val) % 128, by omega⟩ : Fin 128) := by
    funext c
    fin_cases c <;> rfl
  show T (KernelTile.rc (KernelTile.rowNo (listsOf (F := Ideal) X (KernelTile.place (⟨R.val * 30 + j.val, by omega⟩ : Fin 122880)))) l) = _
  rw [hp, lists_apply]
  have hR : (⟨((R.val * 30 + j.val) / 3840 * 3840 + (R.val * 30 + j.val) % 3840 / 128 * 128 + (R.val * 30 + j.val) % 128) / 30, by omega⟩ : Fin 4096) = R :=
    Fin.ext (by show (_ : ℕ) / 30 = R.val; omega)
  have hj : ((R.val * 30 + j.val) / 3840 * 3840 + (R.val * 30 + j.val) % 3840 / 128 * 128 + (R.val * 30 + j.val) % 128) % 30 = j.val := by omega
  simp only [hR, hj]
  have hn : KernelTile.rowNo (BitVec.ofNat 32 (nbr X R (j.val + 1)).val) = nbr X R (j.val + 1) := by
    have h := (nbr X R (j.val + 1)).isLt
    have e : (BitVec.ofNat 32 (nbr X R (j.val + 1)).val).toNat = (nbr X R (j.val + 1)).val := by
      rw [BitVec.toNat_ofNat]; omega
    exact Fin.ext ((KernelTile.rowNo_val (by rw [e]; exact h)).trans e)
  rw [hn]
  refine congrArg T (funext fun c => ?_)
  fin_cases c <;> rfl

end Cert.Proof.KernelLists

end
-- ==== Proof.KernelEnds.lean ====
/-
  The whole kernel's run over the extended reals, from any memory: it ends with its result a term of its arguments, the
  arguments unchanged and every semaphore zero. The lists always name rows of the table (`KernelLists.inRows`), so nothing
  is asked of the memory.
-/
module

public import proofs.«01_k».proof.Proof.KernelLists

@[expose] public section

set_option maxRecDepth 16384

noncomputable section

namespace Cert.Proof.KernelEnds

open Cert.KernelIdeal Cert.KernelIdeal.Gen Cert.Proof.KernelRun Cert.Proof.KernelValue
open Idealize.ShloMosaic Idealize.SL.Sem

variable (m : (ℓ : Loc nD τ sig) → Buf (Elt Ideal) ℓ)

/-- What the kernel returns on a device, of the memory it starts from. -/
def out (c : Dev nD) : S4096x64.Idx → EReal :=
  kernelOf (F := Ideal) (m (c, r' main_arg0)) (m (c, r' main_arg2)) (m (c, r' main_arg3)) (m (c, r' main_arg4)) (m (c, r' main_arg5))
    (m (c, r' main_arg6)) (m (c, r' main_arg7))

theorem run (ρ : Dev nD → PrngReg) :
    θ_run (Cert.KernelIdeal.defs (F := Ideal)) (Cert.KernelIdeal.threads (F := Ideal)) ⟨m, fun _ => 0, ρ⟩ fun r =>
      (∀ c : Dev nD, r.2.mem (c, r' main_v10) = out m c
        ∧ r.2.mem (c, r' main_arg0) = m (c, r' main_arg0) ∧ r.2.mem (c, r' main_arg1) = m (c, r' main_arg1)
        ∧ r.2.mem (c, r' main_arg2) = m (c, r' main_arg2) ∧ r.2.mem (c, r' main_arg3) = m (c, r' main_arg3)
        ∧ r.2.mem (c, r' main_arg4) = m (c, r' main_arg4) ∧ r.2.mem (c, r' main_arg5) = m (c, r' main_arg5)
        ∧ r.2.mem (c, r' main_arg6) = m (c, r' main_arg6) ∧ r.2.mem (c, r' main_arg7) = m (c, r' main_arg7))
      ∧ r.2.sem = fun _ => 0 :=
  (θ_run _ _ _).mono (fun _ h => ⟨fun c =>
      ⟨(h.1 c (r' main_v10) (by decide)).trans (V6_v10 m c),
        (h.1 c (r' main_arg0) (by decide)).trans (V6_arg0 m c), (h.1 c (r' main_arg1) (by decide)).trans (V6_arg1 m c),
        (h.1 c (r' main_arg2) (by decide)).trans (V6_arg2 m c), (h.1 c (r' main_arg3) (by decide)).trans (V6_arg3 m c),
        (h.1 c (r' main_arg4) (by decide)).trans (V6_arg4 m c), (h.1 c (r' main_arg5) (by decide)).trans (V6_arg5 m c),
        (h.1 c (r' main_arg6) (by decide)).trans (V6_arg6 m c), (h.1 c (r' main_arg7) (by decide)).trans (V6_arg7 m c)⟩, h.2⟩)
    (KernelRun.run (F := Ideal) m ρ (KernelLists.inRows m))

end Cert.Proof.KernelEnds

end
-- ==== Proof.KernelPoint.lean ====
/-
  What the kernel returns over the extended reals, at an index: the greatest over the row's thirty neighbours of the
  network of the edge.
-/
module

public import proofs.«01_k».proof.Proof.KernelLists

@[expose] public section

set_option maxRecDepth 16384

noncomputable section

namespace Cert.Proof.KernelPoint

open Cert.KernelIdeal Cert.KernelIdeal.Gen Cert.Proof.KernelValue Cert.Proof.KernelPick Cert.Proof.KernelArrays Cert.Proof.KernelLists
open Idealize.ShloMosaic

theorem upper_apply (W : FVec Ideal S128x64 .f32) (k j : Fin 64) : upper (F := Ideal) W (ix2 k j) = W (ix2 (⟨k.val, by omega⟩ : Fin 128) j) := by
  pointwise [upper]
theorem lower_apply (W : FVec Ideal S128x64 .f32) (k j : Fin 64) : lower (F := Ideal) W (ix2 k j) = W (ix2 (⟨64 + k.val, by omega⟩ : Fin 128) j) := by
  pointwise [lower]
theorem both_apply (W : FVec Ideal S128x64 .f32) (k j : Fin 64) :
    both (F := Ideal) W (ix2 k j) = W (ix2 (⟨k.val, by omega⟩ : Fin 128) j) + W (ix2 (⟨64 + k.val, by omega⟩ : Fin 128) j) := by
  exact congrArg₂ (fun u v : EReal => u + v) (upper_apply W k j) (lower_apply W k j)
theorem row_apply (b : FVec Ideal S64 .f32) (j : Fin 64) : row (F := Ideal) b (ix2 0 j) = b (ix1 j) := by
  pointwise [row]

theorem at_row (R : Fin 4096) : (⟨(bk R).val * 256 + (ps R).val, by have := (bk R).isLt; have := (ps R).isLt; omega⟩ : Fin 4096) = R :=
  Fin.ext (by show R.val / 256 * 256 + R.val % 256 = R.val; omega)

/-- A row of its block is that row of the array. -/
theorem blk_row (X : S4096x64.Idx → EReal) (R : Fin 4096) (k : Fin 64) : block 256 rfl X (bk R) (ix2 (ps R) k) = X (ix2 R k) := by
  rw [block_apply, at_row]

theorem terms_apply (X : FVec Ideal S4096x64 .f32) (W : FVec Ideal S64x64 .f32) (v : FVec Ideal S1x64 .f32) (R : Fin 4096) (j : Fin 64) :
    termsOf (F := Ideal) X W v (ix2 R j) = ∑ k : Fin 64, X (ix2 R k) * W (ix2 k j) + v (ix2 0 j) := by
  refine (stack_apply _ R j).trans ((outA_apply _ W v _ j).trans ?_)
  simp only [blk_row]

theorem table_apply (X : FVec Ideal S4096x64 .f32) (W : FVec Ideal S64x64 .f32) (R : Fin 4096) (j : Fin 64) :
    tableOf (F := Ideal) X W (ix2 R (⟨j.val, by omega⟩ : Fin 128)) = ∑ k : Fin 64, X (ix2 R k) * W (ix2 k j) := by
  refine (stack_apply _ R _).trans ((outC_apply _ W _ _ j.isLt).trans ?_)
  simp only [blk_row]

theorem edges_apply (G : S122880x128.Idx → EReal) (R : Fin 4096) (x : Fin 30) (l : Fin 128) :
    block 7680 rfl G (bk R) (ix2 (⟨(ps R).val * 30 + x.val, by have := (ps R).isLt; omega⟩ : Fin 7680) l)
      = G (ix2 (⟨R.val * 30 + x.val, by omega⟩ : Fin 122880) l) := by
  refine congrArg G (funext fun c => Fin.ext ?_)
  match c with
  | ⟨0, _⟩ =>
    show R.val / 256 * 7680 + (R.val % 256 * 30 + x.val) = R.val * 30 + x.val
    omega
  | ⟨1, _⟩ => rfl

theorem kernelOf_apply (X : FVec Ideal S4096x64 .f32) (W1 : FVec Ideal S128x64 .f32) (b1 : FVec Ideal S64 .f32) (W2 : FVec Ideal S64x64 .f32)
    (b2 : FVec Ideal S64 .f32) (W3 : FVec Ideal S64x64 .f32) (b3 : FVec Ideal S64 .f32) (R : Fin 4096) (o : Fin 64) :
    kernelOf (F := Ideal) X W1 b1 W2 b2 W3 b3 (ix2 R o)
      = Finset.univ.fold max ⊥ fun x : Fin 30 =>
          max (∑ p : Fin 64, max (∑ q : Fin 64,
              max ((∑ k : Fin 64, X (ix2 R k) * (W1 (ix2 (⟨k.val, by omega⟩ : Fin 128) q) + W1 (ix2 (⟨64 + k.val, by omega⟩ : Fin 128) q)) + b1 (ix1 q))
                - ∑ k : Fin 64, X (ix2 (nbr X R (x.val + 1)) k) * W1 (ix2 (⟨64 + k.val, by omega⟩ : Fin 128) q)) 0
                * W2 (ix2 q p) + b2 (ix1 p)) 0 * W3 (ix2 p o) + b3 (ix1 o)) 0 := by
  unfold kernelOf mlpOf
  rw [stack_apply, mlp_apply]
  refine Finset.fold_congr fun x _ => ?_
  simp only [row_apply]
  refine congrArg (fun u => max (u + b3 (ix1 o)) 0) (Finset.sum_congr rfl fun p _ => congrArg (fun u => max (u + b2 (ix1 p)) 0 * W3 (ix2 p o)) (Finset.sum_congr rfl fun q _ => ?_))
  rw [blk_row, terms_apply, edges_apply, gathered_apply, table_apply, row_apply]
  simp only [both_apply, lower_apply]

end Cert.Proof.KernelPoint

end
-- ==== Proof.RefSteps.lean ====
/-
  The reference's result, named step by step: the segment of a row, the masked squared distances, the neighbours taken,
  their rows, and the network's layers.
-/
module

public import proofs.«01_k».proof.Proof.Gen.ReferenceIdeal.Run

@[expose] public section

set_option maxRecDepth 16384

noncomputable section

namespace Cert.Proof.RefSteps

open Cert.ReferenceIdeal Cert.ReferenceIdeal.Gen Cert.ReferenceIdeal.Value
open Idealize.ShloMosaic Idealize.ShloMosaic.TcCoe

variable {F : FTy → Type} [FloatOps F]

/-- How many of the splits are at most a row's number, less one. -/
def seg (s : IVec S17 32) : IVec S4096 32 :=
  subi (Host.reduce IntOp.addi (extui 32 (cmpi .sle (broadcastInDim S4096x17 ![0, 1] bcast_S1x17_S4096x17_0_1 (broadcastInDim S1x17 ![1] bcast_S17_S1x17_1 s)) (broadcastInDim S4096x17 ![0, 1] bcast_S4096x1_S4096x17_0_1 (broadcastInDim S4096x1 ![0] bcast_S4096_S4096x1_0 (iotaInDim S4096 32 0)))) natLt_1_32) (constantI S_ 32 0#32) reducesTo_S4096x17_S4096_d1 h_S_) (broadcastInDim S4096 ![] bcast_S_S4096 (constantI S_ 32 1#32))

/-- Whether two rows share a segment. -/
def same (s : IVec S17 32) : IVec S4096x4096 1 :=
  cmpi .eq (broadcastInDim S4096x4096 ![0, 1] bcast_S4096x1_S4096x4096_0_1 (broadcastInDim S4096x1 ![0] bcast_S4096_S4096x1_0 (seg s))) (broadcastInDim S4096x4096 ![0, 1] bcast_S1x4096_S4096x4096_0_1 (broadcastInDim S1x4096 ![1] bcast_S4096_S1x4096_1 (seg s)))

/-- A row's sum of squares. -/
def sq (X : FVec F S4096x64 .f32) : FVec F S4096 .f32 :=
  Host.reduceAdd (mulf X X) (constant S_ .f32 0x00000000#32) reducesTo_S4096x64_S4096_d1 h_S_

/-- The squared distances of all pairs of rows. -/
def dist (X : FVec F S4096x64 .f32) : FVec F S4096x4096 .f32 :=
  subf (addf (broadcastInDim S4096x4096 ![0, 1] bcast_S4096x1_S4096x4096_0_1 (broadcastInDim S4096x1 ![0] bcast_S4096_S4096x1_0 (sq X))) (broadcastInDim S4096x4096 ![0, 1] bcast_S1x4096_S4096x4096_0_1 (broadcastInDim S1x4096 ![1] bcast_S4096_S1x4096_1 (sq X)))) (mulf (broadcastInDim S4096x4096 ![] bcast_S_S4096x4096 (constant S_ .f32 0x40000000#32)) (Host.dotGeneral dot_S4096x64_S64x4096_S4096x4096_1_0_0_1_n_n none X (transpose S64x4096 [1, 0] X transposes_S4096x64_S64x4096_1_0)))

/-- The distances within a segment, infinity elsewhere. -/
def masked (X : FVec F S4096x64 .f32) (s : IVec S17 32) : FVec F S4096x4096 .f32 :=
  select (same s) (dist X) (broadcastInDim S4096x4096 ![] bcast_S_S4096x4096 (id (constant S_ .f32 0x7F800000#32)))

/-- The second to the thirty-first nearest rows. -/
def near (D : FVec F S4096x4096 .f32) : IVec S4096x30 32 :=
  extractStridedSlice S4096x30 ![0, 1] ((Host.topK S4096x31 1 (FloatOps.cmpfTotal .gt) (Host.negf D) sliceFits_S4096x4096_S4096x31).2) slices_S4096x31_S4096x30_0_1

/-- The row numbers as the gather takes them: a negative one wrapped by the number of rows. -/
def wrap (J : IVec S4096x30 32) : IVec S4096x30x1 32 :=
  broadcastInDim S4096x30x1 ![0, 1] bcast_S4096x30_S4096x30x1_0_1 (select (cmpi .slt J (broadcastInDim S4096x30 ![] bcast_S_S4096x30 (constantI S_ 32 0#32))) (addi J (broadcastInDim S4096x30 ![] bcast_S_S4096x30 (constantI S_ 32 4096#32))) J)

/-- Whether a row number lies in range. -/
def inside (I : IVec S4096x30x1 32) : IVec S4096x30x1 1 :=
  andi (cmpi .sge I (broadcastInDim S4096x30x1 ![] bcast_S_S4096x30x1 (constantI S_ 32 0#32))) (cmpi .sle I (broadcastInDim S4096x30x1 ![0, 1, 2] bcast_S1x1x1_S4096x30x1_0_1_2 (broadcastInDim S1x1x1 ![2] bcast_S1_S1x1x1_2 (constantI S1 32 4095#32))))

/-- The rows taken. -/
def taken (X : FVec F S4096x64 .f32) (I : IVec S4096x30x1 32) : FVec F S4096x30x64 .f32 :=
  select (broadcastInDim S4096x30x64 ![0, 1] bcast_S4096x30_S4096x30x64_0_1 (Host.reduce IntOp.andi (inside I) (constantI S_ 1 1#1) reducesTo_S4096x30x1_S4096x30_d2 h_S_)) (Host.gather gather_S4096x64_S4096x30x1_S4096x30x64_2_0_n_n_0_2_164 X I) (broadcastInDim S4096x30x64 ![] bcast_S_S4096x30x64 (constant S_ .f32 0x7FC00000#32))

/-- A row of the argument, once for each of its edges. -/
def wide (X : FVec F S4096x64 .f32) : FVec F S4096x30x64 .f32 :=
  broadcastInDim S4096x30x64 ![0, 1, 2] bcast_S4096x1x64_S4096x30x64_0_1_2 (broadcastInDim S4096x1x64 ![0, 2] bcast_S4096x64_S4096x1x64_0_2 X)

/-- A bias, once for each edge; and a layer's end. -/
def bias (b : FVec F S64 .f32) : FVec F S4096x30x64 .f32 :=
  broadcastInDim S4096x30x64 ![0, 1, 2] bcast_S1x1x64_S4096x30x64_0_1_2 (broadcastInDim S1x1x64 ![2] bcast_S64_S1x1x64_2 b)
def relu (x : FVec F S4096x30x64 .f32) : FVec F S4096x30x64 .f32 :=
  maximumf x (broadcastInDim S4096x30x64 ![] bcast_S_S4096x30x64 (constant S_ .f32 0x00000000#32))

/-- The first layer, of a row and of its difference from its neighbour; a later one. -/
def first (E T : FVec F S4096x30x64 .f32) (W : FVec F S128x64 .f32) (b : FVec F S64 .f32) : FVec F S4096x30x64 .f32 :=
  relu (addf (Host.dotGeneral dot_S4096x30x128_S128x64_S4096x30x64_2_0_01_1_n_n none (concatenate S4096x30x128 2 [⟨S4096x30x64, E⟩, ⟨S4096x30x64, subf E T⟩] concatenates_S4096x30x64_S4096x30x64_S4096x30x128_d2) W) (bias b))
def layer (x : FVec F S4096x30x64 .f32) (W : FVec F S64x64 .f32) (b : FVec F S64 .f32) : FVec F S4096x30x64 .f32 :=
  relu (addf (Host.dotGeneral dot_S4096x30x64_S64x64_S4096x30x64_2_0_01_1_n_n none x W) (bias b))

/-- The greatest over a row's edges. -/
def most (x : FVec F S4096x30x64 .f32) : FVec F S4096x64 .f32 :=
  Host.reduce FloatOps.maximumf x (constant S_ .f32 0xFF800000#32) reducesTo_S4096x30x64_S4096x64_d1 h_S_

/-- The whole. -/
def out (X : FVec F S4096x64 .f32) (s : IVec S17 32) (W1 : FVec F S128x64 .f32) (b1 : FVec F S64 .f32) (W2 : FVec F S64x64 .f32)
    (b2 : FVec F S64 .f32) (W3 : FVec F S64x64 .f32) (b3 : FVec F S64 .f32) : FVec F S4096x64 .f32 :=
  most (layer (layer (first (wide X) (taken X (wrap (near (masked X s)))) W1 b1) W2 b2) W3 b3)

theorem out_eq (m : (ℓ : Loc nD τ sig) → Buf (Elt F) ℓ) (c : Dev nD) :
    res_main_v50 m c = out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := by
  unfold res_main_v50
  rfl

end Cert.Proof.RefSteps

end
-- ==== Proof.RefPoint.lean ====
/-
  The reference's steps over the extended reals, at an index.
-/
module

public import proofs.«01_k».proof.Proof.RefSteps
public import Idealize.ShloMosaic.Lib.Pointwise
public import Idealize.ShloMosaic.Lib.ReduceAll
public import Idealize.ShloMosaic.Lib.Routing.Ops

@[expose] public section

set_option maxRecDepth 16384

noncomputable section

namespace Cert.Proof.RefPoint

open Cert.ReferenceIdeal Cert.ReferenceIdeal.Gen
open Idealize.ShloMosaic

theorem dist_apply (X : FVec Ideal S4096x64 .f32) (i c : Fin 4096) :
    RefSteps.dist X (ix2 i c)
      = (∑ k : Fin 64, X (ix2 i k) * X (ix2 i k) + ∑ k : Fin 64, X (ix2 c k) * X (ix2 c k))
        - Ideal.ofBits .f32 0x40000000#32 * ∑ k : Fin 64, X (ix2 i k) * X (ix2 c k) := by
  pointwise [RefSteps.dist, RefSteps.sq]

/-! ## The segments -/

theorem fold_addi_ofNat {n : ℕ} (g : Fin n → ℕ) (S : Finset (Fin n)) :
    S.fold IntOp.addi (0#32) (fun x => BitVec.ofNat 32 (g x)) = BitVec.ofNat 32 (∑ x ∈ S, g x) := by
  classical
  induction S using Finset.induction_on with
  | empty => rfl
  | insert a S ha ih =>
    rw [Finset.fold_insert ha, Finset.sum_insert ha, ih]
    exact (BitVec.ofNat_add _ _).symm

/-- How many of `0, 256, …, 4096` are at most `i`. -/
theorem count_splits (i : Fin 4096) : (∑ x : Fin 17, if 256 * x.val ≤ i.val then 1 else 0) = i.val / 256 + 1 := by
  have hi := i.isLt
  rw [Finset.sum_boole]
  have e : Finset.univ.filter (fun x : Fin 17 => 256 * x.val ≤ i.val) = Finset.Iic (⟨i.val / 256, by omega⟩ : Fin 17) := by
    ext x
    simp only [Finset.mem_filter, Finset.mem_univ, true_and, Finset.mem_Iic, Fin.le_def]
    omega
  rw [e, Fin.card_Iic]
  rfl

/-- Where the splits are the multiples of 256, a row's segment is its block. -/
theorem seg_apply (s : IVec S17 32) (hs : ∀ k : Fin 17, s (ix1 k) = BitVec.ofNat 32 (256 * k.val)) (i : Fin 4096) :
    RefSteps.seg s (ix1 i) = BitVec.ofNat 32 (i.val / 256) := by
  pointwise [RefSteps.seg]
  have hi := i.isLt
  have e : (fun x : Fin 17 => BitVec.setWidth 32 (IntOp.cmpi .sle (s (ix1 x)) (BitVec.ofNat 32 i.val)))
      = fun x => BitVec.ofNat 32 (if 256 * x.val ≤ i.val then 1 else 0) := by
    funext x
    have hx := x.isLt
    rw [hs x]
    simp only [IntOp.cmpi, BitVec.sle_eq_decide, BitVec.toInt_eq_toNat_cond, BitVec.toNat_ofNat]
    by_cases hle : 256 * x.val ≤ i.val
    · rw [if_pos hle, decide_eq_true (by omega)]; rfl
    · rw [if_neg hle, decide_eq_false (by omega)]; rfl
  rw [e, fold_addi_ofNat, count_splits]
  show BitVec.ofNat 32 (i.val / 256 + 1) - 1#32 = _
  rw [BitVec.ofNat_add]
  exact BitVec.add_sub_cancel _ _

theorem masked_apply (X : FVec Ideal S4096x64 .f32) (s : IVec S17 32) (hs : ∀ k : Fin 17, s (ix1 k) = BitVec.ofNat 32 (256 * k.val)) (i c : Fin 4096) :
    RefSteps.masked X s (ix2 i c) = if i.val / 256 = c.val / 256 then RefSteps.dist X (ix2 i c) else ⊤ := by
  pointwise [RefSteps.masked, RefSteps.same]
  have hi := i.isLt
  have hc := c.isLt
  rw [seg_apply s hs, seg_apply s hs]
  have et : id (constant (F := Ideal) S_ FTy.f32 2139095040#32) ix0 = ⊤ := by
    show Ideal.ofBits .f32 0x7F800000#32 = ⊤
    simp [Ideal.ofBits, Ideal.ieee]
  by_cases h : i.val / 256 = c.val / 256
  · rw [if_pos h, h]
    have e : IntOp.cmpi .eq (BitVec.ofNat 32 (c.val / 256)) (BitVec.ofNat 32 (c.val / 256)) = 1#1 := by simp [IntOp.cmpi]
    rw [e]; rfl
  · rw [if_neg h]
    have e : IntOp.cmpi .eq (BitVec.ofNat 32 (i.val / 256)) (BitVec.ofNat 32 (c.val / 256)) = 0#1 := by
      have hne : BitVec.ofNat 32 (i.val / 256) ≠ BitVec.ofNat 32 (c.val / 256) := fun e => h (by
        have := congrArg BitVec.toNat e
        simp only [BitVec.toNat_ofNat] at this
        omega)
      show BitVec.ofBool (_ == _) = 0#1
      rw [beq_eq_false_iff_ne.mpr hne]; rfl
    rw [e]
    exact et

/-! ## The rows taken -/

/-- The reference's gather: each of the thirty row numbers of a row fetches one row. -/
abbrev dG : GatherDims S4096x64 S4096x30x1 S4096x30x64 := gather_S4096x64_S4096x30x1_S4096x30x64_2_0_n_n_0_2_164
theorem gather_apply (X : S4096x64.Idx → EReal) (I : IVec S4096x30x1 32) (i : Fin 4096) (j : Fin 30) (k : Fin 64) (n : Fin 4096)
    (h : I (ix3 i j 0) = BitVec.ofNat 32 n.val) : Host.gather dG X I (ix3 i j k) = X (ix2 n k) := by
  unfold Host.gather
  refine congrArg X (funext fun a => Fin.ext ?_)
  match a with
  | ⟨0, _⟩ =>
    show dG.start (ix3 i j k) I 0 + dG.batchCoord (ix3 i j k) 0 + dG.offCoord (ix3 i j k) 0 = n.val
    have hm : (0 : Fin 2) ∈ dG.startIndexMap := List.mem_singleton.2 rfl
    rw [dG.batchCoord_eq_zero _ _ List.not_mem_nil, dG.offCoord_eq_zero _ _ fun e => ((dG.mem_sKept 0).1 e).1 (List.mem_singleton.2 rfl)]
    unfold GatherDims.start
    rw [dif_pos hm]
    have hsi : dG.siIdx (ix3 i j k) ⟨dG.startIndexMap.idxOf 0, List.idxOf_lt_length_iff.2 hm⟩ = ix3 i j (0 : Fin 1) := by
      funext b
      match b with
      | ⟨0, _⟩ => rfl
      | ⟨1, _⟩ => rfl
      | ⟨2, _⟩ => rfl
    have hn := n.isLt
    rw [hsi, h, StableHlo.Predicate.toInt_ofNat_small _ (by omega)]
    show min ((n.val : Int)).toNat (4096 - 1) + 0 + 0 = n.val
    omega
  | ⟨1, _⟩ =>
    show dG.start (ix3 i j k) I 1 + dG.batchCoord (ix3 i j k) 1 + dG.offCoord (ix3 i j k) 1 = k.val
    rw [dG.batchCoord_eq_zero _ _ List.not_mem_nil]
    unfold GatherDims.start GatherDims.offCoord
    rw [dif_neg (by decide), dif_pos (by decide)]
    show 0 + 0 + k.val = k.val
    omega

theorem inside_apply (I : IVec S4096x30x1 32) (hI : ∀ i j, (I (ix3 i j 0)).toNat < 4096) (x : S4096x30x1.Idx) : RefSteps.inside I x = 1#1 := by
  obtain ⟨a, b, c, rfl⟩ : ∃ a b c, x = ix3 a b c := ⟨x 0, x 1, x 2, eq_ix3 x⟩
  obtain rfl : c = 0 := Subsingleton.elim _ _
  pointwise [RefSteps.inside]
  have := hI a b
  simp only [IntOp.cmpi, BitVec.sle_eq_decide, BitVec.toInt_eq_toNat_cond, BitVec.toNat_ofNat]
  rw [decide_eq_true (by omega), decide_eq_true (by omega)]; rfl

theorem taken_apply (X : S4096x64.Idx → EReal) (I : IVec S4096x30x1 32) (σ : Fin 4096 → Fin 30 → Fin 4096)
    (h : ∀ i j, I (ix3 i j 0) = BitVec.ofNat 32 (σ i j).val) (i : Fin 4096) (j : Fin 30) (k : Fin 64) :
    RefSteps.taken (F := Ideal) X I (ix3 i j k) = X (ix2 (σ i j) k) := by
  have hall := inside_apply I fun i j => by
    have := (σ i j).isLt
    rw [h i j, BitVec.toNat_ofNat]; omega
  unfold RefSteps.taken
  refine (ValueIdx.select_apply ..).trans ?_
  show Scalar.select (Host.reduce IntOp.andi _ _ reducesTo_S4096x30x1_S4096x30_d2 h_S_ _) (Host.gather _ X _ (ix3 i j k)) _ = _
  rw [Host.reduce_andi_one _ _ _ _ _ rfl hall]
  exact gather_apply X I i j k (σ i j) (h i j)

theorem wrap_apply (J : IVec S4096x30 32) (i : Fin 4096) (j : Fin 30) (h : (J (ix2 i j)).toNat < 4096) : RefSteps.wrap J (ix3 i j 0) = J (ix2 i j) := by
  pointwise [RefSteps.wrap]
  have hlt : IntOp.cmpi .slt (J (ix2 i j)) 0#32 = 0#1 := by
    simp only [IntOp.cmpi, BitVec.slt_eq_decide, BitVec.toInt_eq_toNat_cond, BitVec.toNat_ofNat]
    rw [decide_eq_false (by omega)]; rfl
  rw [hlt]; rfl

/-! ## The nearest rows: a stable sort of a row's distances -/

theorem along_apply (i c k : Fin 4096) : ((ix2 i c : S4096x4096.Idx).along 1 k : S4096x4096.Idx) = ix2 i k := by
  funext a
  match a with
  | ⟨0, _⟩ => rfl
  | ⟨1, _⟩ => rfl

theorem sort2_apply {α β : Type} (cmp : α × β → α × β → BitVec 1) (x : S4096x4096.Idx → α) (y : S4096x4096.Idx → β) (i c : Fin 4096) :
    (Host.sort2 S4096x4096 1 cmp x y).2 (ix2 i c)
      = y (ix2 i (sortedFrom (fun p q => cmp (x (ix2 i p), y (ix2 i p)) (x (ix2 i q), y (ix2 i q)) == 1#1) c)) := by
  unfold Host.sort2
  rw [dif_pos (by decide)]
  refine (congrArg y (along_apply i c _)).trans (congrArg (fun B => y (ix2 i (sortedFrom B c))) (funext fun p => funext fun q => ?_))
  exact congrArg₂ (fun u v => cmp (x u, y u) (x v, y v) == 1#1) (along_apply i c p) (along_apply i c q)

theorem sort2_positions {α : Type} (gt : α → α → BitVec 1) (x : S4096x4096.Idx → α) (i c : Fin 4096) :
    (Host.sort2 S4096x4096 1 (fun l r => gt l.1 r.1) x fun i => BitVec.ofNat 32 (i 1).val).2 (ix2 i c)
      = BitVec.ofNat 32 (sortedFrom (fun p q : Fin 4096 => gt (x (ix2 i p)) (x (ix2 i q)) == 1#1) c).val :=
  sort2_apply (fun l r => gt l.1 r.1) x _ i c

theorem gt_neg (a b : EReal) : (FloatOps.cmpfTotal (F := Ideal) (φ := .f32) .gt (-a : EReal) (-b : EReal) == 1#1) = decide (a < b) := by
  show (BitVec.ofBool (decide (-b < -a)) == 1#1) = _
  have h : (-b < -a) = (a < b) := propext EReal.neg_lt_neg_iff
  simp only [h]
  by_cases hlt : a < b
  · rw [decide_eq_true hlt]; rfl
  · rw [decide_eq_false hlt]; rfl

theorem near_apply (D : FVec Ideal S4096x4096 .f32) (i : Fin 4096) (j : Fin 30) :
    RefSteps.near D (ix2 i j) = BitVec.ofNat 32
      (sortedFrom (fun p q : Fin 4096 => decide (D (ix2 i p) < D (ix2 i q))) (⟨1 + j.val, by omega⟩ : Fin 4096)).val := by
  pointwise [RefSteps.near]
  unfold Host.topK
  dsimp only
  pointwise
  refine (sort2_positions _ _ i _).trans ?_
  exact congrArg (fun B => BitVec.ofNat 32 (sortedFrom B (⟨1 + j.val, by omega⟩ : Fin 4096)).val) (funext fun p => funext fun q => gt_neg _ _)
/-! ## The network -/

theorem first_apply (E T : FVec Ideal S4096x30x64 .f32) (W : FVec Ideal S128x64 .f32) (b : FVec Ideal S64 .f32) (i : Fin 4096) (j : Fin 30) (o : Fin 64) :
    RefSteps.first E T W b (ix3 i j o)
      = max (∑ k : Fin 64, E (ix3 i j k) * W (ix2 (⟨k.val, by omega⟩ : Fin 128) o)
          + ∑ k : Fin 64, (E (ix3 i j k) - T (ix3 i j k)) * W (ix2 (⟨64 + k.val, by omega⟩ : Fin 128) o) + b (ix1 o)) 0 := by
  pointwise [RefSteps.first, RefSteps.relu, RefSteps.bias]

theorem layer_apply (x : FVec Ideal S4096x30x64 .f32) (W : FVec Ideal S64x64 .f32) (b : FVec Ideal S64 .f32) (i : Fin 4096) (j : Fin 30) (o : Fin 64) :
    RefSteps.layer x W b (ix3 i j o) = max (∑ k : Fin 64, x (ix3 i j k) * W (ix2 k o) + b (ix1 o)) 0 := by
  pointwise [RefSteps.layer, RefSteps.relu, RefSteps.bias]

theorem wide_apply (X : FVec Ideal S4096x64 .f32) (i : Fin 4096) (j : Fin 30) (k : Fin 64) : RefSteps.wide X (ix3 i j k) = X (ix2 i k) := by
  pointwise [RefSteps.wide]

theorem most_apply (x : FVec Ideal S4096x30x64 .f32) (i : Fin 4096) (o : Fin 64) :
    RefSteps.most x (ix2 i o) = Finset.univ.fold max ⊥ fun j : Fin 30 => x (ix3 i j o) := by
  pointwise [RefSteps.most]
  rw [show Ideal.ofBits .f32 0xFF800000#32 = ⊥ by simp [Ideal.ofBits, Ideal.ieee]]

end Cert.Proof.RefPoint

end
-- ==== Proof.Nearest.lean ====
/-
  The neighbours agree: a stable sort of a row's masked distances over all 4096 rows begins with the columns the kernel's
  steps take within the row's block of 256. Inside the block both compute the same distance; outside it the mask is
  infinity, and no distance of real rows is.
-/
module

public import proofs.«01_k».proof.Proof.KernelPoint
public import proofs.«01_k».proof.Proof.RefPoint

@[expose] public section

set_option maxRecDepth 16384

noncomputable section

namespace Cert.Proof.Nearest

open Cert.Proof.KernelPick Cert.Proof.KernelLists Cert.Proof.KernelPoint
open Idealize.ShloMosaic

abbrev Rows : Shape := ⟨2, ![4096, 64]⟩

/-- Sums, products and differences of real numbers are those of the numbers. -/
theorem coe_sum {n : ℕ} (f : Fin n → ℝ) : (∑ k, (f k : EReal)) = ((∑ k, f k : ℝ) : EReal) := by
  classical
  suffices h : ∀ S : Finset (Fin n), (∑ k ∈ S, (f k : EReal)) = ((∑ k ∈ S, f k : ℝ) : EReal) from h Finset.univ
  intro S
  induction S using Finset.induction_on with
  | empty => simp
  | insert a S ha ih => rw [Finset.sum_insert ha, Finset.sum_insert ha, ih, EReal.coe_add]

theorem two_word : Ideal.ofBits .f32 0x40000000#32 = ((2 : ℝ) : EReal) := by
  simp [Ideal.ofBits, Ideal.ieee]
  rw [← EReal.coe_mul]
  norm_num

/-- A distance of real rows is a real number. -/
theorem dist_lt_top (x : Rows.Idx → ℝ) (i c : Fin 4096) :
    RefSteps.dist (F := Ideal) (fun y => (x y : EReal)) (ix2 i c) < ⊤ := by
  rw [RefPoint.dist_apply, two_word]
  simp only [← EReal.coe_mul, coe_sum, ← EReal.coe_add, ← EReal.coe_sub]
  exact EReal.coe_lt_top _

/-- Row `c` of the block that row `R` lies in. -/
def up (R : Fin 4096) (c : Fin 256) : Fin 4096 := ⟨256 * (R.val / 256) + c.val, by omega⟩

theorem blk_up (X : Rows.Idx → EReal) (R : Fin 4096) (c : Fin 256) (k : Fin 64) : blk X R (ix2 c k) = X (ix2 (up R c) k) := by
  refine (block_apply X (bk R) c k).trans (congrArg (fun r => X (ix2 r k)) (Fin.ext ?_))
  show R.val / 256 * 256 + c.val = 256 * (R.val / 256) + c.val
  omega

/-- Within a block the two distances are one. -/
theorem dist_up (X : Rows.Idx → EReal) (R : Fin 4096) (c : Fin 256) :
    RefSteps.dist (F := Ideal) X (ix2 R (up R c)) = KernelSteps.dist (F := Ideal) (blk X R) (ix2 (ps R) c) := by
  rw [RefPoint.dist_apply, KernelPick.dist_apply]
  simp only [blk_up, blk_row]
  have e : ∀ k, X (ix2 (up R (ps R)) k) = X (ix2 R k) := fun k => (blk_up X R (ps R) k).symm.trans (blk_row X R k)
  simp only [e]

variable (x : Rows.Idx → ℝ) (s : IVec Cert.ReferenceIdeal.S17 32) (hs : ∀ k : Fin 17, s (ix1 k) = BitVec.ofNat 32 (256 * k.val)) (R : Fin 4096)

local notation "XX" => (fun y => ((x y : ℝ) : EReal) : Rows.Idx → EReal)

include hs in
/-- Place `k < 31` of the sorted distances is the column of the kernel's step `k`. -/
theorem sorted_eq (k : Fin 31) :
    sortedFrom (fun p q : Fin 4096 => decide (RefSteps.masked (F := Ideal) XX s (ix2 R p) < RefSteps.masked (F := Ideal) XX s (ix2 R q)))
      (k.castLE (by norm_num) : Fin 4096) = nbr XX R k.val := by
  have hR := R.isLt
  have P := picks (blk XX R) (ps R)
  have hkey : ∀ c, RefSteps.masked (F := Ideal) XX s (ix2 R (up R c)) = KernelSteps.dist (F := Ideal) (blk XX R) (ix2 (ps R) c) := fun c => by
    have hc := c.isLt
    rw [RefPoint.masked_apply _ s hs, if_pos (by show R.val / 256 = (256 * (R.val / 256) + c.val) / 256; omega), dist_up]
  have hf : ∀ c, KernelSteps.dist (F := Ideal) (blk XX R) (ix2 (ps R) c) < ⊤ := fun c => by
    rw [← dist_up]; exact dist_lt_top x R _
  have hup : ∀ k, nbr XX R k = up R (pick (blk XX R) (ps R) k) := fun _ => rfl
  have up_inj : ∀ c c', up R c = up R c' → c = c' := fun c c' e => Fin.ext (by
    have := congrArg Fin.val e
    simp only [up] at this
    omega)
  have up_lt : ∀ c c', c < c' → up R c < up R c' := fun c c' e => by
    have : c.val < c'.val := e
    show 256 * (R.val / 256) + c.val < 256 * (R.val / 256) + c'.val
    omega
  have fresh : ∀ a b : ℕ, a < b → b < 31 → pick (blk XX R) (ps R) a ≠ pick (blk XX R) (ps R) b := fun a b hab hb =>
    P.fresh hf (show b < 256 by omega) a hab
  refine Picks.sortedFrom_of_key (fun p => RefSteps.masked (F := Ideal) XX s (ix2 R p)) _ (fun _ _ => rfl) (by norm_num)
    (fun k : Fin 31 => nbr XX R k.val) ?_ ?_ ?_ k
  · intro a b e
    have e' := up_inj _ _ e
    by_contra hne
    rcases lt_or_gt_of_ne hne with h | h
    · exact fresh a.val b.val h b.isLt e'
    · exact fresh b.val a.val h a.isLt e'.symm
  · intro a b hab
    have h := P.before hf (k := a.val) (c := pick (blk XX R) (ps R) b.val) (by have := a.isLt; omega) fun j hj => fresh j b.val (lt_of_le_of_lt hj hab) b.isLt
    show RefSteps.masked (F := Ideal) XX s (ix2 R (up R _)) < RefSteps.masked (F := Ideal) XX s (ix2 R (up R _)) ∨ _ ∧ up R _ < up R _
    simp only [hup, hkey]
    exact h.imp id fun h => ⟨h.1, up_lt _ _ h.2⟩
  · intro a p hp
    have hpl := p.isLt
    by_cases hin : p.val / 256 = R.val / 256
    · obtain ⟨c, rfl⟩ : ∃ c, p = up R c := ⟨⟨p.val % 256, by omega⟩, Fin.ext (by show p.val = 256 * (R.val / 256) + p.val % 256; omega)⟩
      have h := P.before hf (k := a.val) (c := c) (by have := a.isLt; omega) fun j hj e =>
        hp ⟨j, by have := a.isLt; omega⟩ (congrArg (up R) e)
      simp only [hup, hkey]
      exact h.imp id fun h => ⟨h.1, up_lt _ _ h.2⟩
    · left
      simp only [hup, hkey]
      rw [RefPoint.masked_apply _ s hs, if_neg fun e => hin e.symm]
      exact hf _

include hs in
/-- The reference's neighbours are the kernel's. -/
theorem near_eq (j : Fin 30) : RefSteps.near (RefSteps.masked (F := Ideal) XX s) (ix2 R j) = BitVec.ofNat 32 (nbr XX R (j.val + 1)).val := by
  rw [RefPoint.near_apply]
  have h := sorted_eq x s hs R (⟨1 + j.val, by omega⟩ : Fin 31)
  refine congrArg (fun r : Fin 4096 => BitVec.ofNat 32 r.val) (h.trans ?_)
  show nbr XX R (1 + j.val) = _
  rw [Nat.add_comm]

end Cert.Proof.Nearest

end
-- ==== Proof.Args.lean ====
/-
  What the precondition says: the rows and the first weights are real numbers, the splits the multiples of 256.
-/
module

public import proofs.«01_k».proof.Proof.Gen.Pre_finite_uniform
public import Idealize.ShloMosaic.Lib.Pointwise
public import Idealize.ShloMosaic.Lib.ReduceAll

@[expose] public section

set_option maxRecDepth 16384

noncomputable section

namespace Cert.Proof.Args

open Cert.Pre_finite_uniform Cert.Pre_finite_uniform.Gen
open Idealize.ShloMosaic

instance : Subsingleton S_.Idx := ⟨fun _ _ => funext fun a => a.elim0⟩

theorem ofBool_one {b : Bool} (h : BitVec.ofBool b = 1#1) : b = true := by
  cases b
  · exact absurd h (by decide)
  · rfl

/-- An extended real whose absolute value is below infinity is a real number. -/
theorem real_of_abs {v : EReal} (h : BitVec.ofBool (decide (FloatOps.absf (F := Ideal) (φ := .f32) v < Ideal.ofBits .f32 0x7F800000#32)) = 1#1) :
    v = ((v.toReal : ℝ) : EReal) := by
  have h1 : max v (-v) < ⊤ := by
    have e : Ideal.ofBits .f32 0x7F800000#32 = ⊤ := by simp [Ideal.ofBits, Ideal.ieee]
    rw [← e]
    exact of_decide_eq_true (ofBool_one h)
  refine (EReal.coe_toReal ?_ ?_).symm
  · rintro rfl
    exact absurd h1 (by simp)
  · rintro rfl
    exact absurd h1 (by simp)

variable (X : FVec Ideal S4096x64 .f32) (s : IVec S17 32) (W1 : FVec Ideal S128x64 .f32) (b1 : FVec Ideal S64 .f32)
  (W2 : FVec Ideal S64x64 .f32) (b2 : FVec Ideal S64 .f32) (W3 : FVec Ideal S64x64 .f32) (b3 : FVec Ideal S64 .f32)

theorem args_of_pre (h : Cert.Pre_finite_uniform.fn (F := Ideal) X s W1 b1 W2 b2 W3 b3 = fun _ => 1#1) :
    (∃ x : S4096x64.Idx → ℝ, X = fun i => (x i : EReal)) ∧ (∃ w : S128x64.Idx → ℝ, W1 = fun i => (w i : EReal))
      ∧ ∀ k : Fin 17, s (ix1 k) = BitVec.ofNat 32 (256 * k.val) := by
  have e := congrFun h ix0
  unfold Cert.Pre_finite_uniform.fn at e
  obtain ⟨e1, e2⟩ := IntOp.andi_eq_one.1 e
  obtain ⟨e0, e1⟩ := IntOp.andi_eq_one.1 e1
  have h0 := fun i => Host.reduce_andi_all _ _ _ _ _ e0 i
  have h1 := fun i => Host.reduce_andi_all _ _ _ _ _ e1 i
  have h2 := fun i => Host.reduce_andi_all _ _ _ _ _ e2 i
  refine ⟨⟨fun i => (X i).toReal, funext fun i => ?_⟩, ⟨fun i => (W1 i).toReal, funext fun i => ?_⟩, fun k => ?_⟩
  · obtain ⟨a, b, rfl⟩ : ∃ a b, i = ix2 a b := ⟨i 0, i 1, eq_ix2 i⟩
    have h := h0 (ix2 a b)
    pointwise at h
    exact real_of_abs h
  · obtain ⟨a, b, rfl⟩ : ∃ a b, i = ix2 a b := ⟨i 0, i 1, eq_ix2 i⟩
    have h := h1 (ix2 a b)
    pointwise at h
    exact real_of_abs h
  · have h := h2 (ix1 k)
    pointwise at h
    have h' : s (ix1 k) = 256#32 * BitVec.ofNat 32 k.val := eq_of_beq (ofBool_one h)
    rw [h', BitVec.ofNat_mul]

end Cert.Proof.Args

end
-- ==== Proof.Equal.lean ====
/-
  The kernel's result is the reference's, over real rows and real first weights: the neighbours agree (`Nearest`), and
  the kernel's first layer, split into a term of the row and a term of the neighbour, is the reference's by the
  distributive law over the reals. The later layers and the maximum are the same terms.
-/
module

public import proofs.«01_k».proof.Proof.Nearest
public import proofs.«01_k».proof.Proof.Args

@[expose] public section

set_option maxRecDepth 16384

noncomputable section

namespace Cert.Proof.Equal

open Cert.Proof.KernelLists Cert.Proof.Nearest
open Idealize.ShloMosaic

/-- The first layer before its bound at zero, both ways. -/
theorem split (x y u v : Fin 64 → ℝ) (b : EReal) :
    (∑ k, (x k : EReal) * ((u k : EReal) + (v k : EReal)) + b) - ∑ k, (y k : EReal) * (v k : EReal)
      = ∑ k, (x k : EReal) * (u k : EReal) + ∑ k, ((x k : EReal) - (y k : EReal)) * (v k : EReal) + b := by
  simp only [← EReal.coe_mul, ← EReal.coe_add, ← EReal.coe_sub, coe_sum]
  rw [sub_eq_add_neg, add_right_comm, ← EReal.coe_neg, ← EReal.coe_add]
  congr 2
  rw [← Finset.sum_neg_distrib, ← Finset.sum_add_distrib, ← Finset.sum_add_distrib]
  exact Finset.sum_congr rfl fun k _ => by ring

theorem equal_real (x : Rows.Idx → ℝ) (s : IVec Cert.ReferenceIdeal.S17 32) (w : (⟨2, ![128, 64]⟩ : Shape).Idx → ℝ) (b1 : FVec Ideal ⟨1, ![64]⟩ .f32)
    (W2 : FVec Ideal ⟨2, ![64, 64]⟩ .f32) (b2 : FVec Ideal ⟨1, ![64]⟩ .f32) (W3 : FVec Ideal ⟨2, ![64, 64]⟩ .f32) (b3 : FVec Ideal ⟨1, ![64]⟩ .f32)
    (hs : ∀ k : Fin 17, s (ix1 k) = BitVec.ofNat 32 (256 * k.val)) :
    KernelValue.kernelOf (F := Ideal) (fun i => (x i : EReal)) (fun i => (w i : EReal)) b1 W2 b2 W3 b3
      = RefSteps.out (F := Ideal) (fun i => (x i : EReal)) s (fun i => (w i : EReal)) b1 W2 b2 W3 b3 := by
  funext i
  obtain ⟨R, o, rfl⟩ : ∃ R o, i = ix2 R o := ⟨i 0, i 1, eq_ix2 i⟩
  have hnear := fun (R : Fin 4096) (j : Fin 30) => near_eq x s hs R j
  have hwrap : ∀ (R : Fin 4096) (j : Fin 30), RefSteps.wrap (RefSteps.near (RefSteps.masked (F := Ideal) (fun i => (x i : EReal)) s)) (ix3 R j 0)
      = BitVec.ofNat 32 (nbr (fun i => (x i : EReal)) R (j.val + 1)).val := fun R j => by
    have h := (nbr (fun i => (x i : EReal)) R (j.val + 1)).isLt
    refine (RefPoint.wrap_apply _ R j ?_).trans (hnear R j)
    rw [hnear R j, BitVec.toNat_ofNat]
    omega
  rw [KernelPoint.kernelOf_apply]
  unfold RefSteps.out
  rw [RefPoint.most_apply]
  refine Finset.fold_congr fun j _ => ?_
  rw [RefPoint.layer_apply]
  refine congrArg (fun u : EReal => max (u + b3 (ix1 o)) 0) (Finset.sum_congr rfl fun p _ => congrArg (fun u : EReal => u * W3 (ix2 p o)) ?_)
  rw [RefPoint.layer_apply]
  refine congrArg (fun u : EReal => max (u + b2 (ix1 p)) 0) (Finset.sum_congr rfl fun q _ => congrArg (fun u : EReal => u * W2 (ix2 q p)) ?_)
  rw [RefPoint.first_apply]
  simp only [RefPoint.wide_apply, RefPoint.taken_apply _ _ (fun R j => nbr (fun i => (x i : EReal)) R (j.val + 1)) hwrap]
  exact congrArg (fun u : EReal => max u 0) (split (fun k => x (ix2 R k)) (fun k => x (ix2 (nbr (fun i => (x i : EReal)) R (j.val + 1)) k))
    (fun k => w (ix2 (⟨k.val, by omega⟩ : Fin 128) q)) (fun k => w (ix2 (⟨64 + k.val, by omega⟩ : Fin 128) q)) (b1 (ix1 q)))

/-- The same under the precondition as it is stated. -/
theorem equal (X : FVec Ideal Rows .f32) (s : IVec Cert.ReferenceIdeal.S17 32) (W1 : FVec Ideal ⟨2, ![128, 64]⟩ .f32) (b1 : FVec Ideal ⟨1, ![64]⟩ .f32)
    (W2 : FVec Ideal ⟨2, ![64, 64]⟩ .f32) (b2 : FVec Ideal ⟨1, ![64]⟩ .f32) (W3 : FVec Ideal ⟨2, ![64, 64]⟩ .f32) (b3 : FVec Ideal ⟨1, ![64]⟩ .f32)
    (h : Cert.Pre_finite_uniform.fn (F := Ideal) X s W1 b1 W2 b2 W3 b3 = fun _ => 1#1) :
    KernelValue.kernelOf (F := Ideal) X W1 b1 W2 b2 W3 b3 = RefSteps.out (F := Ideal) X s W1 b1 W2 b2 W3 b3 := by
  obtain ⟨⟨x, rfl⟩, ⟨w, rfl⟩, hs⟩ := Args.args_of_pre X s W1 b1 W2 b2 W3 b3 h
  exact equal_real x s w b1 W2 b2 W3 b3 hs

end Cert.Proof.Equal

end
-- ==== Proof.lean ====
/-
  The proof of `Cert.Claim`. The whole kernel runs by `KernelEnds.run`, its reference by the printed run, and their results
  are equal by `Equal.equal`. The gather's two programs run by `GatherRun.run` and `GatherIdealRun.run`; its reference by
  the printed run, whose term is the gathered rows (`GatherValue.reference_eq`).
-/
module

public import proofs.«01_k».proof.Defs
public import proofs.«01_k».proof.Proof.Gen.Gather
public import proofs.«01_k».proof.Proof.Gen.Gather.Skeleton
public import proofs.«01_k».proof.Proof.Gen.GatherIdeal
public import proofs.«01_k».proof.Proof.Gen.GatherIdeal.Skeleton
public import proofs.«01_k».proof.Proof.Gen.GatherReferenceIdeal
public import proofs.«01_k».proof.Proof.Gen.GatherReferenceIdeal.Run
public import proofs.«01_k».proof.Proof.Gen.Pre_idx_in_rows
public import proofs.«01_k».proof.Proof.Gen.Pre_finite_uniform
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.GatherRun
public import Idealize.ShloMosaic.Lib.Quiescent
public import proofs.«01_k».proof.Proof.GatherIdealRun
public import proofs.«01_k».proof.Proof.GatherValue
public import proofs.«01_k».proof.Proof.KernelEnds
public import proofs.«01_k».proof.Proof.Equal

@[expose] public section

noncomputable section

namespace Cert.Proof

open Idealize.ShloMosaic Idealize.SL.Sem

theorem kernelIdeal_frame : Cert.quiescent_KernelIdeal := fun m g _ =>
  (θ_run Cert.KernelIdeal.defs _ _).mono (fun _ h => ⟨fun c => (h.1 c).2, h.2⟩) (KernelEnds.run m g)

theorem kernelIdeal_frame_pre : Cert.quiescent_KernelIdeal_pre_finite_uniform := fun m g _ => kernelIdeal_frame m g trivial

theorem referenceIdeal_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem referenceIdeal_frame_pre : Cert.quiescent_ReferenceIdeal_pre_finite_uniform := fun m g _ => referenceIdeal_frame m g trivial

theorem kernel_value : Cert.algebraic_KernelIdeal_ReferenceIdeal_pre_finite_uniform := by
  intro m g m' g' hpre hargs
  refine ⟨fun c => KernelEnds.out m c, ?_, ?_⟩
  · exact (θ_run Cert.KernelIdeal.defs _ _).mono (fun _ h => h.1) (KernelEnds.run m g)
  · refine (θ_run Cert.ReferenceIdeal.defs _ _).mono (fun _ h c => ⟨(h c).1.trans ?_, (h c).2⟩) (Cert.ReferenceIdeal.Value.run (F := Ideal) m' g')
    obtain ⟨e0, e1, e2, e3, e4, e5, e6, e7⟩ := hargs c
    rw [RefSteps.out_eq, e0, e1, e2, e3, e4, e5, e6, e7]
    exact (Equal.equal _ _ _ _ _ _ _ _ (hpre c)).symm

theorem gather_frame : Cert.quiescent_Gather := fun m g hpre =>
  (θ_run Cert.Gather.defs _ _).mono (fun _ h => ⟨fun c => ⟨(h.1 c).2.1, (h.1 c).2.2⟩, h.2⟩)
    (GatherRun.run (F := Bits) m g (GatherRun.inRows_of_pre m hpre))

theorem gatherIdeal_frame : Cert.quiescent_GatherIdeal := fun m g hpre =>
  (θ_run Cert.GatherIdeal.defs _ _).mono (fun _ h => ⟨fun c => ⟨(h.1 c).2.1, (h.1 c).2.2⟩, h.2⟩)
    (GatherIdealRun.run (F := Ideal) m g (GatherIdealRun.inRows_of_pre m hpre))

theorem gatherReference_frame : Cert.quiescent_GatherReferenceIdeal := fun m g _ =>
  (θ_run Cert.GatherReferenceIdeal.defs _ _).mono (fun r h => ⟨fun c => (h c).2, sem_eq_zero_of_no_sems (by decide) r.2⟩)
    (Cert.GatherReferenceIdeal.Value.run (F := Ideal) m g)

set_option maxRecDepth 65536 in
theorem gather_value : Cert.algebraic_GatherIdeal_GatherReferenceIdeal := by
  intro m g m' g' hpre hargs
  have hin := GatherIdealRun.inRows_of_pre m hpre
  refine ⟨fun c => GatherIdealTile.rowsOf (m (GatherIdealTile.tLoc c)) (m (GatherIdealTile.iLoc c)), ?_, ?_⟩
  · exact (θ_run Cert.GatherIdeal.defs _ _).mono (fun _ h => h.1) (GatherIdealRun.run (F := Ideal) m g hin)
  · refine (θ_run Cert.GatherReferenceIdeal.defs _ _).mono (fun _ h c => ⟨(h c).1.trans ?_, (h c).2⟩)
      (Cert.GatherReferenceIdeal.Value.run (F := Ideal) m' g')
    rw [(hargs c).1, (hargs c).2]
    exact GatherValue.reference_eq (F := Ideal) (m (GatherIdealTile.tLoc c)) (m (GatherIdealTile.iLoc c)) (hin c)

theorem claim : Cert.Claim :=
  ⟨Cert.KernelIdeal.Gen.facts, Cert.ReferenceIdeal.Gen.facts, Cert.Gather.Gen.facts, Cert.GatherIdeal.Gen.facts,
    Cert.GatherReferenceIdeal.Gen.facts, Cert.Pre_finite_uniform.Gen.facts, Cert.Pre_idx_in_rows.Gen.facts,
    kernelIdeal_frame, kernelIdeal_frame_pre, referenceIdeal_frame, referenceIdeal_frame_pre, gather_frame, gatherIdeal_frame,
    gatherReference_frame, kernel_value, trivial, gather_value⟩

end Cert.Proof

end
